-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x8192 : Shape := ⟨2, ![4096, 8192]⟩
abbrev S1 : Shape := ⟨1, ![1]⟩
abbrev S_ : Shape := ⟨0, ![]⟩
abbrev S1024x8192 : Shape := ⟨2, ![1024, 8192]⟩
abbrev S1024x2048 : Shape := ⟨2, ![1024, 2048]⟩
abbrev S4x1024x1024 : Shape := ⟨3, ![4, 1024, 1024]⟩
abbrev S2x1024x2048 : Shape := ⟨3, ![2, 1024, 2048]⟩
abbrev S3x1024x1024 : Shape := ⟨3, ![3, 1024, 1024]⟩
abbrev S2x1024x1024 : Shape := ⟨3, ![2, 1024, 1024]⟩
abbrev S3 : Shape := ⟨1, ![3]⟩
abbrev S4 : Shape := ⟨1, ![4]⟩
abbrev S2 : Shape := ⟨1, ![2]⟩
abbrev S1x1024x1024 : Shape := ⟨3, ![1, 1024, 1024]⟩
abbrev S1024x1024 : Shape := ⟨2, ![1024, 1024]⟩
abbrev S1x1024x2048 : Shape := ⟨3, ![1, 1024, 2048]⟩

abbrev nBuf : Space → Nat
  | .hbm => 11
  | .vmem => 7
  | .smem => 3
  | _ => 0

abbrev bufTy : (tb : Table) → Fin (tcTables nBuf tb) → BufTy
  | .hbm, ⟨0, _⟩ => ⟨S4096x1024, .f32⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1024x8192, .bf16⟩
  | .local _ .vmem, ⟨0, _⟩ => ⟨S1024x2048, .fp8e4m3⟩
  | .local _ .vmem, ⟨1, _⟩ => ⟨S1024x2048, .fp8e4m3⟩
  | .local _ .vmem, ⟨2, _⟩ => ⟨S1024x8192, .bf16⟩
  | .local _ .vmem, ⟨3, _⟩ => ⟨S4x1024x1024, .fp8e4m3⟩
  | .local _ .vmem, ⟨4, _⟩ => ⟨S2x1024x2048, .bf16⟩
  | .local _ .vmem, ⟨5, _⟩ => ⟨S3x1024x1024, .fp8e4m3⟩
  | .local _ .vmem, ⟨6, _⟩ => ⟨S2x1024x1024, .f32⟩
  | .local _ .smem, ⟨0, _⟩ => ⟨S1, .i32⟩
  | .local _ .smem, ⟨1, _⟩ => ⟨S1, .f32⟩
  | .local _ .smem, ⟨2, _⟩ => ⟨S1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨1, _⟩ => true
  | .smem, ⟨2, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v6 : Ref sig .tc := ⟨.hbm, 10, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev barrier0 : Sem sig := 0

abbrev nD : Nat := 4
abbrev τ : Topo := Topo.v7x

variable {F : FTy → Type} [FloatOps F]

abbrev grid0 : Pipeline.Grid := ⟨2, ![4, 4], ![false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let arg1 : BitVec 32 := BitVec.ofNat 32 (i 1).val
  let c0_i32_0 : BitVec 32 := 0#32
  let v6 : BitVec 1 := Scalar.cmpi .eq arg1 c0_i32_0
  let v7 : BitVec 1 := Scalar.andi v5 v6
  let v8 : BitVec 32 := Scalar.extui v7
  let c0_i32_1 : BitVec 32 := 0#32
  let v9 : BitVec 1 := Scalar.cmpi .ne v8 c0_i32_1
  v9

def k0_off1 (v0 : BitVec 32) (c3_i32_20 : BitVec 32) : Fin 2 → Nat :=
  let v41 : BitVec 32 := Scalar.addi v0 c3_i32_20
  let c4_i32_21 : BitVec 32 := 4#32
  let v42 : BitVec 32 := Scalar.remsi v41 c4_i32_21
  let c1024_i32 : BitVec 32 := 1024#32
  let v43 : BitVec 32 := Scalar.muli v42 c1024_i32
  let c0_i32_26 : BitVec 32 := 0#32
  ![v43.toNat, 0]

def k0_dev1 (v0 : BitVec 32) : Nat :=
  let c0_i32_38 : BitVec 32 := 0#32
  let c1_i32_34 : BitVec 32 := 1#32
  let v58 : BitVec 32 := Scalar.addi v0 c1_i32_34
  let c4_i32_35 : BitVec 32 := 4#32
  let v59 : BitVec 32 := Scalar.remsi v58 c4_i32_35
  let c1_i32_37 : BitVec 32 := 1#32
  let v60 : BitVec 32 := Scalar.muli v59 c1_i32_37
  let v61 : BitVec 32 := Scalar.addi c0_i32_38 v60
  v61.toNat
def k0_dev2 (v0 : BitVec 32) : Nat :=
  let c0_i32_43 : BitVec 32 := 0#32
  let c2_i32_39 : BitVec 32 := 2#32
  let v62 : BitVec 32 := Scalar.addi v0 c2_i32_39
  let c4_i32_40 : BitVec 32 := 4#32
  let v63 : BitVec 32 := Scalar.remsi v62 c4_i32_40
  let c1_i32_42 : BitVec 32 := 1#32
  let v64 : BitVec 32 := Scalar.muli v63 c1_i32_42
  let v65 : BitVec 32 := Scalar.addi c0_i32_43 v64
  v65.toNat
def k0_dev3 (v0 : BitVec 32) : Nat :=
  let c0_i32_48 : BitVec 32 := 0#32
  let c3_i32_44 : BitVec 32 := 3#32
  let v66 : BitVec 32 := Scalar.addi v0 c3_i32_44
  let c4_i32_45 : BitVec 32 := 4#32
  let v67 : BitVec 32 := Scalar.remsi v66 c4_i32_45
  let c1_i32_47 : BitVec 32 := 1#32
  let v68 : BitVec 32 := Scalar.muli v67 c1_i32_47
  let v69 : BitVec 32 := Scalar.addi c0_i32_48 v68
  v69.toNat
def k0_off2 (v0 : BitVec 32) : Fin 1 → Nat :=
  ![v0.toNat]
def k0_off3 (v0 : BitVec 32) : Fin 3 → Nat :=
  let c0_i32_70 : BitVec 32 := 0#32
  let c0_i32_71 : BitVec 32 := 0#32
  ![v0.toNat, 0, 0]
def k0_dev4 (v0 : BitVec 32) : Nat :=
  let c0_i32_69 : BitVec 32 := 0#32
  let c3_i32_64 : BitVec 32 := 3#32
  let v84 : BitVec 32 := Scalar.addi v0 c3_i32_64
  let c4_i32_65 : BitVec 32 := 4#32
  let v85 : BitVec 32 := Scalar.remsi v84 c4_i32_65
  let c1_i32_68 : BitVec 32 := 1#32
  let v86 : BitVec 32 := Scalar.muli v85 c1_i32_68
  let v87 : BitVec 32 := Scalar.addi c0_i32_69 v86
  v87.toNat
def k0_dev5 (v0 : BitVec 32) : Nat :=
  let c0_i32_100 : BitVec 32 := 0#32
  let c2_i32_95 : BitVec 32 := 2#32
  let v118 : BitVec 32 := Scalar.addi v0 c2_i32_95
  let c4_i32_96 : BitVec 32 := 4#32
  let v119 : BitVec 32 := Scalar.remsi v118 c4_i32_96
  let c1_i32_99 : BitVec 32 := 1#32
  let v120 : BitVec 32 := Scalar.muli v119 c1_i32_99
  let v121 : BitVec 32 := Scalar.addi c0_i32_100 v120
  v121.toNat
def k0_dev6 (v0 : BitVec 32) : Nat :=
  let c0_i32_131 : BitVec 32 := 0#32
  let c1_i32_126 : BitVec 32 := 1#32
  let v152 : BitVec 32 := Scalar.addi v0 c1_i32_126
  let c4_i32_127 : BitVec 32 := 4#32
  let v153 : BitVec 32 := Scalar.remsi v152 c4_i32_127
  let c1_i32_130 : BitVec 32 := 1#32
  let v154 : BitVec 32 := Scalar.muli v153 c1_i32_130
  let v155 : BitVec 32 := Scalar.addi c0_i32_131 v154
  v155.toNat
def k0_off4 (v0 : BitVec 32) : Fin 3 → Nat :=
  let v175 : Index := Scalar.indexCast v0
  let c0_147 : Index := 0#32
  let c0_148 : Index := 0#32
  ![v175.toNat, 0, 0]
def k0_cond2 (i : grid0.Coords) : BitVec 1 :=
  let arg0 : BitVec 32 := BitVec.ofNat 32 (i 0).val
  let c0_i32_2 : BitVec 32 := 0#32
  let v10 : BitVec 1 := Scalar.cmpi .sgt arg0 c0_i32_2
  let arg1 : BitVec 32 := BitVec.ofNat 32 (i 1).val
  let c0_i32_3 : BitVec 32 := 0#32
  let v11 : BitVec 1 := Scalar.cmpi .eq arg1 c0_i32_3
  let v12 : BitVec 1 := Scalar.andi v10 v11
  let v13 : BitVec 32 := Scalar.extui v12
  let c0_i32_4 : BitVec 32 := 0#32
  let v14 : BitVec 1 := Scalar.cmpi .ne v13 c0_i32_4
  v14

def k0_off5 (i : grid0.Coords) (v0 : BitVec 32) : Fin 1 → Nat :=
  let arg0 : BitVec 32 := BitVec.ofNat 32 (i 0).val
  let c1_i32 : BitVec 32 := 1#32
  let v1 : BitVec 32 := Scalar.shrsi arg0 c1_i32
  let v2 : BitVec 32 := Scalar.xori arg0 v1
  let v3 : BitVec 32 := Scalar.addi v0 v2
  let c4_i32 : BitVec 32 := 4#32
  let v4 : BitVec 32 := Scalar.remsi v3 c4_i32
  ![v4.toNat]
def k0_off6 (i : grid0.Coords) (v0 : BitVec 32) : Fin 3 → Nat :=
  let arg0 : BitVec 32 := BitVec.ofNat 32 (i 0).val
  let c1_i32 : BitVec 32 := 1#32
  let v1 : BitVec 32 := Scalar.shrsi arg0 c1_i32
  let v2 : BitVec 32 := Scalar.xori arg0 v1
  let v3 : BitVec 32 := Scalar.addi v0 v2
  let c4_i32 : BitVec 32 := 4#32
  let v4 : BitVec 32 := Scalar.remsi v3 c4_i32
  let c0_i32_24 : BitVec 32 := 0#32
  let c0_i32_25 : BitVec 32 := 0#32
  ![v4.toNat, 0, 0]
def k0_off7 (i : grid0.Coords) (v0 : BitVec 32) : Fin 3 → Nat :=
  let arg0 : BitVec 32 := BitVec.ofNat 32 (i 0).val
  let c1_i32 : BitVec 32 := 1#32
  let v1 : BitVec 32 := Scalar.shrsi arg0 c1_i32
  let v2 : BitVec 32 := Scalar.xori arg0 v1
  let v3 : BitVec 32 := Scalar.addi v0 v2
  let c4_i32 : BitVec 32 := 4#32
  let v4 : BitVec 32 := Scalar.remsi v3 c4_i32
  let v19 : Index := Scalar.indexCast v4
  let c0_7 : Index := 0#32
  let c0_8 : Index := 0#32
  ![v19.toNat, 0, 0]
def k0_cond3 (i : grid0.Coords) : BitVec 1 :=
  let arg0 : BitVec 32 := BitVec.ofNat 32 (i 0).val
  let c0_i32_11 : BitVec 32 := 0#32
  let v25 : BitVec 1 := Scalar.cmpi .eq arg0 c0_i32_11
  let v26 : BitVec 32 := Scalar.extui v25
  let c0_i32_12 : BitVec 32 := 0#32
  let v27 : BitVec 1 := Scalar.cmpi .ne v26 c0_i32_12
  v27

def k0_off8 (i : grid0.Coords) : Fin 2 → Nat :=
  let c0_20 : Index := 0#32
  let arg1 : BitVec 32 := BitVec.ofNat 32 (i 1).val
  let c2048_i32 : BitVec 32 := 2048#32
  let v15 : BitVec 32 := Scalar.muli arg1 c2048_i32
  let v42 : Index := Scalar.indexCast v15
  ![0, v42.toNat]
def k0_cond4 (i : grid0.Coords) : BitVec 1 :=
  let arg0 : BitVec 32 := BitVec.ofNat 32 (i 0).val
  let c0_i32_13 : BitVec 32 := 0#32
  let v28 : BitVec 1 := Scalar.cmpi .sgt arg0 c0_i32_13
  let c3_i32 : BitVec 32 := 3#32
  let v29 : BitVec 1 := Scalar.cmpi .slt arg0 c3_i32
  let v30 : BitVec 1 := Scalar.andi v28 v29
  let v31 : BitVec 32 := Scalar.extui v30
  let c0_i32_14 : BitVec 32 := 0#32
  let v32 : BitVec 1 := Scalar.cmpi .ne v31 c0_i32_14
  v32

def k0_off9 (i : grid0.Coords) : Fin 2 → Nat :=
  let c0_20 : Index := 0#32
  let arg1 : BitVec 32 := BitVec.ofNat 32 (i 1).val
  let c2048_i32 : BitVec 32 := 2048#32
  let v15 : BitVec 32 := Scalar.muli arg1 c2048_i32
  let v41 : Index := Scalar.indexCast v15
  ![0, v41.toNat]
def k0_cond5 (i : grid0.Coords) : BitVec 1 :=
  let arg0 : BitVec 32 := BitVec.ofNat 32 (i 0).val
  let c3_i32_15 : BitVec 32 := 3#32
  let v33 : BitVec 1 := Scalar.cmpi .eq arg0 c3_i32_15
  let v34 : BitVec 32 := Scalar.extui v33
  let c0_i32_16 : BitVec 32 := 0#32
  let v35 : BitVec 1 := Scalar.cmpi .ne v34 c0_i32_16
  v35

def k0_cond6 (i : grid0.Coords) : BitVec 1 :=
  let arg1 : BitVec 32 := BitVec.ofNat 32 (i 1).val
  let c2_i32_20 : BitVec 32 := 2#32
  let v42 : BitVec 1 := Scalar.cmpi .sge arg1 c2_i32_20
  let v43 : BitVec 32 := Scalar.extui v42
  let c0_i32_21 : BitVec 32 := 0#32
  let v44 : BitVec 1 := Scalar.cmpi .ne v43 c0_i32_21
  v44

def k0_off10 (i : grid0.Coords) : Fin 1 → Nat :=
  let arg1 : BitVec 32 := BitVec.ofNat 32 (i 1).val
  let c2_i32 : BitVec 32 := 2#32
  let v41 : BitVec 32 := Scalar.remsi arg1 c2_i32
  ![v41.toNat]
def k0_off11 (i : grid0.Coords) : Fin 2 → Nat :=
  let c0_i32_31 : BitVec 32 := 0#32
  let arg1 : BitVec 32 := BitVec.ofNat 32 (i 1).val
  let c2_i32_29 : BitVec 32 := 2#32
  let v63 : BitVec 32 := Scalar.subi arg1 c2_i32_29
  let c2048_i32_30 : BitVec 32 := 2048#32
  let v64 : BitVec 32 := Scalar.muli v63 c2048_i32_30
  ![0, v64.toNat]
def k0_off12 (i : grid0.Coords) : Fin 3 → Nat :=
  let arg1 : BitVec 32 := BitVec.ofNat 32 (i 1).val
  let c2_i32 : BitVec 32 := 2#32
  let v41 : BitVec 32 := Scalar.remsi arg1 c2_i32
  let c0_i32_32 : BitVec 32 := 0#32
  let c0_i32_33 : BitVec 32 := 0#32
  ![v41.toNat, 0, 0]
def k0_off13 (i : grid0.Coords) : Fin 2 → Nat :=
  let c0_22 : Index := 0#32
  let arg1 : BitVec 32 := BitVec.ofNat 32 (i 1).val
  let c2048_i32 : BitVec 32 := 2048#32
  let v15 : BitVec 32 := Scalar.muli arg1 c2048_i32
  let v45 : Index := Scalar.indexCast v15
  ![0, v45.toNat]
def k0_off14 (i : grid0.Coords) : Fin 3 → Nat :=
  let arg1 : BitVec 32 := BitVec.ofNat 32 (i 1).val
  let c2_i32 : BitVec 32 := 2#32
  let v41 : BitVec 32 := Scalar.remsi arg1 c2_i32
  let v54 : Index := Scalar.indexCast v41
  let c0_24 : Index := 0#32
  let c0_25 : Index := 0#32
  ![v54.toNat, 0, 0]
def k0_off15 (i : grid0.Coords) : Fin 1 → Nat :=
  let arg1 : BitVec 32 := BitVec.ofNat 32 (i 1).val
  let c2_i32 : BitVec 32 := 2#32
  let v41 : BitVec 32 := Scalar.remsi arg1 c2_i32
  ![v41.toNat]
def k0_off16 (i : grid0.Coords) : Fin 2 → Nat :=
  let c0_i32_26 : BitVec 32 := 0#32
  let arg1 : BitVec 32 := BitVec.ofNat 32 (i 1).val
  let c2048_i32 : BitVec 32 := 2048#32
  let v15 : BitVec 32 := Scalar.muli arg1 c2048_i32
  ![0, v15.toNat]
def k0_off17 (i : grid0.Coords) : Fin 3 → Nat :=
  let arg1 : BitVec 32 := BitVec.ofNat 32 (i 1).val
  let c2_i32 : BitVec 32 := 2#32
  let v41 : BitVec 32 := Scalar.remsi arg1 c2_i32
  let c0_i32_27 : BitVec 32 := 0#32
  let c0_i32_28 : BitVec 32 := 0#32
  ![v41.toNat, 0, 0]
def k0_cond7 (i : grid0.Coords) : BitVec 1 :=
  let arg0 : BitVec 32 := BitVec.ofNat 32 (i 0).val
  let c3_i32_17 : BitVec 32 := 3#32
  let v36 : BitVec 1 := Scalar.cmpi .eq arg0 c3_i32_17
  let arg1 : BitVec 32 := BitVec.ofNat 32 (i 1).val
  let c3_i32_18 : BitVec 32 := 3#32
  let v37 : BitVec 1 := Scalar.cmpi .eq arg1 c3_i32_18
  let v38 : BitVec 1 := Scalar.andi v36 v37
  let v39 : BitVec 32 := Scalar.extui v38
  let c0_i32_19 : BitVec 32 := 0#32
  let v40 : BitVec 1 := Scalar.cmpi .ne v39 c0_i32_19
  v40

def k0_off18 (v0 : BitVec 32) : Fin 3 → Nat :=
  let c0_i32_37 : BitVec 32 := 0#32
  let c0_i32_38 : BitVec 32 := 0#32
  ![v0.toNat, 0, 0]

def k0_chk1 (i : grid0.Coords) (v0 : BitVec 32) : Prop :=
  (∀ (k0_h1 : k0_cond1 i = 1#1), ∀ (r : Fin 4), ∀ a, (k0_off1 v0 (BitVec.ofNat 32 r.val)) a + S1024x1024.size a ≤ S4096x1024.size a) ∧
  (∀ (k0_h1 : k0_cond1 i = 1#1), (k0_dev1 v0) < nD) ∧
  (∀ (k0_h1 : k0_cond1 i = 1#1), (k0_dev2 v0) < nD) ∧
  (∀ (k0_h1 : k0_cond1 i = 1#1), (k0_dev3 v0) < nD) ∧
  (∀ (k0_h1 : k0_cond1 i = 1#1), ∀ a, (k0_off2 v0) a + S1.size a ≤ S4.size a) ∧
  (∀ (k0_h1 : k0_cond1 i = 1#1), ∀ a, (k0_off3 v0) a + S1x1024x1024.size a ≤ S4x1024x1024.size a) ∧
  (∀ (k0_h1 : k0_cond1 i = 1#1), ∀ (hinb : ∀ a, (k0_off3 v0) a + S1x1024x1024.size a ≤ S4x1024x1024.size a), (Rect.unit (s := S4x1024x1024) (k0_off3 v0) S1x1024x1024.size hinb).WholeWords (EltTy.packing .fp8e4m3)) ∧
  (∀ (k0_h1 : k0_cond1 i = 1#1), (k0_dev4 v0) < nD) ∧
  (∀ (k0_h1 : k0_cond1 i = 1#1), (k0_dev5 v0) < nD) ∧
  (∀ (k0_h1 : k0_cond1 i = 1#1), (k0_dev6 v0) < nD) ∧
  (∀ (k0_h1 : k0_cond1 i = 1#1), ∀ a, (k0_off4 v0) a + S1x1024x1024.size a ≤ S4x1024x1024.size a) ∧
  (∀ (k0_h1 : k0_cond1 i = 1#1), ∀ (hinb : ∀ a, (k0_off4 v0) a + S1x1024x1024.size a ≤ S4x1024x1024.size a), (Rect.unit (s := S4x1024x1024) (k0_off4 v0) S1x1024x1024.size hinb).PackedRows (EltTy.packing .fp8e4m3)) ∧
  (∀ (k0_h2 : k0_cond2 i = 1#1), ∀ a, (k0_off5 i v0) a + S1.size a ≤ S4.size a) ∧
  (∀ (k0_h2 : k0_cond2 i = 1#1), ∀ a, (k0_off6 i v0) a + S1x1024x1024.size a ≤ S4x1024x1024.size a) ∧
  (∀ (k0_h2 : k0_cond2 i = 1#1), ∀ (hinb : ∀ a, (k0_off6 i v0) a + S1x1024x1024.size a ≤ S4x1024x1024.size a), (Rect.unit (s := S4x1024x1024) (k0_off6 i v0) S1x1024x1024.size hinb).WholeWords (EltTy.packing .fp8e4m3)) ∧
  (∀ a, (k0_off7 i v0) a + S1x1024x1024.size a ≤ S4x1024x1024.size a) ∧
  (∀ (k0_h7 : k0_cond7 i = 1#1), ∀ a, (k0_off18 v0) a + S1x1024x1024.size a ≤ S4x1024x1024.size a) ∧
  (∀ (k0_h7 : k0_cond7 i = 1#1), ∀ (hinb : ∀ a, (k0_off18 v0) a + S1x1024x1024.size a ≤ S4x1024x1024.size a), (Rect.unit (s := S4x1024x1024) (k0_off18 v0) S1x1024x1024.size hinb).WholeWords (EltTy.packing .fp8e4m3))
theorem k0_off1_inb : ∀ (i : grid0.Coords) (v0 : BitVec 32) (k0_hw1 : k0_chk1 i v0), ∀ (k0_h1 : k0_cond1 i = 1#1), ∀ (r : Fin 4), ∀ a, (k0_off1 v0 (BitVec.ofNat 32 r.val)) a + S1024x1024.size a ≤ S4096x1024.size a := fun i v0 k0_hw1 k0_h1 r => k0_hw1.1 k0_h1 r
theorem k0_dev1_lt : ∀ (i : grid0.Coords) (v0 : BitVec 32) (k0_hw1 : k0_chk1 i v0), ∀ (k0_h1 : k0_cond1 i = 1#1), (k0_dev1 v0) < nD := fun i v0 k0_hw1 k0_h1 => k0_hw1.2.1 k0_h1
theorem k0_dev2_lt : ∀ (i : grid0.Coords) (v0 : BitVec 32) (k0_hw1 : k0_chk1 i v0), ∀ (k0_h1 : k0_cond1 i = 1#1), (k0_dev2 v0) < nD := fun i v0 k0_hw1 k0_h1 => k0_hw1.2.2.1 k0_h1
theorem k0_dev3_lt : ∀ (i : grid0.Coords) (v0 : BitVec 32) (k0_hw1 : k0_chk1 i v0), ∀ (k0_h1 : k0_cond1 i = 1#1), (k0_dev3 v0) < nD := fun i v0 k0_hw1 k0_h1 => k0_hw1.2.2.2.1 k0_h1
theorem k0_off2_inb : ∀ (i : grid0.Coords) (v0 : BitVec 32) (k0_hw1 : k0_chk1 i v0), ∀ (k0_h1 : k0_cond1 i = 1#1), ∀ a, (k0_off2 v0) a + S1.size a ≤ S4.size a := fun i v0 k0_hw1 k0_h1 => k0_hw1.2.2.2.2.1 k0_h1
theorem k0_off3_inb : ∀ (i : grid0.Coords) (v0 : BitVec 32) (k0_hw1 : k0_chk1 i v0), ∀ (k0_h1 : k0_cond1 i = 1#1), ∀ a, (k0_off3 v0) a + S1x1024x1024.size a ≤ S4x1024x1024.size a := fun i v0 k0_hw1 k0_h1 => k0_hw1.2.2.2.2.2.1 k0_h1
theorem k0_off3_wordsfp8e4m3 : ∀ (i : grid0.Coords) (v0 : BitVec 32) (k0_hw1 : k0_chk1 i v0), ∀ (k0_h1 : k0_cond1 i = 1#1), (Rect.unit (s := S4x1024x1024) (k0_off3 v0) S1x1024x1024.size (k0_off3_inb i v0 k0_hw1 k0_h1)).WholeWords (EltTy.packing .fp8e4m3) := fun i v0 k0_hw1 k0_h1 => k0_hw1.2.2.2.2.2.2.1 k0_h1 (k0_off3_inb i v0 k0_hw1 k0_h1)
theorem k0_dev4_lt : ∀ (i : grid0.Coords) (v0 : BitVec 32) (k0_hw1 : k0_chk1 i v0), ∀ (k0_h1 : k0_cond1 i = 1#1), (k0_dev4 v0) < nD := fun i v0 k0_hw1 k0_h1 => k0_hw1.2.2.2.2.2.2.2.1 k0_h1
theorem k0_dev5_lt : ∀ (i : grid0.Coords) (v0 : BitVec 32) (k0_hw1 : k0_chk1 i v0), ∀ (k0_h1 : k0_cond1 i = 1#1), (k0_dev5 v0) < nD := fun i v0 k0_hw1 k0_h1 => k0_hw1.2.2.2.2.2.2.2.2.1 k0_h1
theorem k0_dev6_lt : ∀ (i : grid0.Coords) (v0 : BitVec 32) (k0_hw1 : k0_chk1 i v0), ∀ (k0_h1 : k0_cond1 i = 1#1), (k0_dev6 v0) < nD := fun i v0 k0_hw1 k0_h1 => k0_hw1.2.2.2.2.2.2.2.2.2.1 k0_h1
theorem k0_off4_inb : ∀ (i : grid0.Coords) (v0 : BitVec 32) (k0_hw1 : k0_chk1 i v0), ∀ (k0_h1 : k0_cond1 i = 1#1), ∀ a, (k0_off4 v0) a + S1x1024x1024.size a ≤ S4x1024x1024.size a := fun i v0 k0_hw1 k0_h1 => k0_hw1.2.2.2.2.2.2.2.2.2.2.1 k0_h1
theorem k0_off4_packedfp8e4m3 : ∀ (i : grid0.Coords) (v0 : BitVec 32) (k0_hw1 : k0_chk1 i v0), ∀ (k0_h1 : k0_cond1 i = 1#1), (Rect.unit (s := S4x1024x1024) (k0_off4 v0) S1x1024x1024.size (k0_off4_inb i v0 k0_hw1 k0_h1)).PackedRows (EltTy.packing .fp8e4m3) := fun i v0 k0_hw1 k0_h1 => k0_hw1.2.2.2.2.2.2.2.2.2.2.2.1 k0_h1 (k0_off4_inb i v0 k0_hw1 k0_h1)
theorem k0_off5_inb : ∀ (i : grid0.Coords) (v0 : BitVec 32) (k0_hw1 : k0_chk1 i v0), ∀ (k0_h2 : k0_cond2 i = 1#1), ∀ a, (k0_off5 i v0) a + S1.size a ≤ S4.size a := fun i v0 k0_hw1 k0_h2 => k0_hw1.2.2.2.2.2.2.2.2.2.2.2.2.1 k0_h2
theorem k0_off6_inb : ∀ (i : grid0.Coords) (v0 : BitVec 32) (k0_hw1 : k0_chk1 i v0), ∀ (k0_h2 : k0_cond2 i = 1#1), ∀ a, (k0_off6 i v0) a + S1x1024x1024.size a ≤ S4x1024x1024.size a := fun i v0 k0_hw1 k0_h2 => k0_hw1.2.2.2.2.2.2.2.2.2.2.2.2.2.1 k0_h2
theorem k0_off6_wordsfp8e4m3 : ∀ (i : grid0.Coords) (v0 : BitVec 32) (k0_hw1 : k0_chk1 i v0), ∀ (k0_h2 : k0_cond2 i = 1#1), (Rect.unit (s := S4x1024x1024) (k0_off6 i v0) S1x1024x1024.size (k0_off6_inb i v0 k0_hw1 k0_h2)).WholeWords (EltTy.packing .fp8e4m3) := fun i v0 k0_hw1 k0_h2 => k0_hw1.2.2.2.2.2.2.2.2.2.2.2.2.2.2.1 k0_h2 (k0_off6_inb i v0 k0_hw1 k0_h2)
theorem k0_off7_inb : ∀ (i : grid0.Coords) (v0 : BitVec 32) (k0_hw1 : k0_chk1 i v0), ∀ a, (k0_off7 i v0) a + S1x1024x1024.size a ≤ S4x1024x1024.size a := fun i v0 k0_hw1 => k0_hw1.2.2.2.2.2.2.2.2.2.2.2.2.2.2.2.1
theorem k0_off18_inb : ∀ (i : grid0.Coords) (v0 : BitVec 32) (k0_hw1 : k0_chk1 i v0), ∀ (k0_h7 : k0_cond7 i = 1#1), ∀ a, (k0_off18 v0) a + S1x1024x1024.size a ≤ S4x1024x1024.size a := fun i v0 k0_hw1 k0_h7 => k0_hw1.2.2.2.2.2.2.2.2.2.2.2.2.2.2.2.2.1 k0_h7
theorem k0_off18_wordsfp8e4m3 : ∀ (i : grid0.Coords) (v0 : BitVec 32) (k0_hw1 : k0_chk1 i v0), ∀ (k0_h7 : k0_cond7 i = 1#1), (Rect.unit (s := S4x1024x1024) (k0_off18 v0) S1x1024x1024.size (k0_off18_inb i v0 k0_hw1 k0_h7)).WholeWords (EltTy.packing .fp8e4m3) := fun i v0 k0_hw1 k0_h7 => k0_hw1.2.2.2.2.2.2.2.2.2.2.2.2.2.2.2.2.2 k0_h7 (k0_off18_inb i v0 k0_hw1 k0_h7)

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.shrsi arg0 c1_i32
  let v2 : BitVec 32 := Scalar.xori arg0 v1
  let v3 : BitVec 32 := Scalar.addi v0 v2
  let c4_i32 : BitVec 32 := 4#32
  let v4 : BitVec 32 := Scalar.remsi v3 c4_i32
  let c0_i32 : BitVec 32 := 0#32
  ![v4.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 2 → Memref sig .tc .vmem S1024x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .f32⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S4096x8192, .bf16⟩
  | .local _ .vmem, ⟨0, _⟩ => ⟨S4096x4096, .f32⟩
  | .local _ .vmem, ⟨1, _⟩ => ⟨S4096x8192, .fp8e4m3⟩
  | .local _ .vmem, ⟨2, _⟩ => ⟨S4096x8192, .bf16⟩
  | .local _ .smem, ⟨0, _⟩ => ⟨S1, .f32⟩
  | .local _ .smem, ⟨1, _⟩ => ⟨S1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Place.lean ====
/-
  Where the kernel's accesses lie. Device `c` reads its own index out of the prefetched table, so every offset and
  every peer it computes is a function of `c` and the grid point; this module names them in closed form. It also
  names the pieces of the scratch buffers the kernel works on (the slots of the three slot buffers, the column
  blocks of the accumulator and of the result), and says what the views the kernel takes of them read and write.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions
public import Idealize.ShloMosaic.Lib.Pipeline.Kit
public import Idealize.ShloMosaic.Lib.Pipeline.Value
public import Idealize.ShloMosaic.Lib.Transfers
public import Idealize.ShloMosaic.Lib.Tactic

@[expose] public section

noncomputable section

namespace Cert.AllToAll

open Cert.KernelIdeal Cert.KernelIdeal.Gen
open Idealize.ShloMosaic
open Idealize.ShloMosaic.TcCoe

/-! ## The device's index and its peers -/

/-- The word the table holds on device `c`. -/
abbrev me (c : Dev nD) : BitVec 32 := BitVec.ofNat 32 c.val

set_option backward.proofsInPublic true in
/-- The device `h` places after `c` around the ring of four. -/
def far (h : ℕ) (c : Dev nD) : Dev nD := ⟨(c.val + h) % 4, Nat.mod_lt _ (by decide)⟩

/-- The K-block multiplied in pass `q`: the block owned by the device `q xor (q / 2)` places on. -/
def gray : Fin 4 → ℕ := ![0, 1, 3, 2]

/-- The peer whose block device `c` multiplies in pass `q`. -/
def src (c : Dev nD) (q : Fin 4) : Dev nD := far (gray q) c

theorem far_far : ∀ c : Dev nD, far 1 (far 3 c) = c ∧ far 2 (far 2 c) = c ∧ far 3 (far 1 c) = c := by decide

theorem chk (i : grid0.Coords) (c : Dev nD) : k0_chk1 i (me c) := by
  revert i c; decide +kernel

theorem off1_eq (c : Dev nD) : k0_off1 (me c) 0#32 = ![1024 * (far 0 c).val, 0] ∧ k0_off1 (me c) 1#32 = ![1024 * (far 1 c).val, 0]
    ∧ k0_off1 (me c) 2#32 = ![1024 * (far 2 c).val, 0] ∧ k0_off1 (me c) 3#32 = ![1024 * (far 3 c).val, 0] := by
  revert c; decide

theorem dev1_eq (c : Dev nD) (h : k0_dev1 (me c) < nD) : (⟨k0_dev1 (me c), h⟩ : Dev nD) = far 1 c := by revert c; decide
theorem dev2_eq (c : Dev nD) (h : k0_dev2 (me c) < nD) : (⟨k0_dev2 (me c), h⟩ : Dev nD) = far 2 c := by revert c; decide
theorem dev3_eq (c : Dev nD) (h : k0_dev3 (me c) < nD) : (⟨k0_dev3 (me c), h⟩ : Dev nD) = far 3 c := by revert c; decide
theorem dev4_eq (c : Dev nD) (h : k0_dev4 (me c) < nD) : (⟨k0_dev4 (me c), h⟩ : Dev nD) = far 3 c := by revert c; decide
theorem dev5_eq (c : Dev nD) (h : k0_dev5 (me c) < nD) : (⟨k0_dev5 (me c), h⟩ : Dev nD) = far 2 c := by revert c; decide
theorem dev6_eq (c : Dev nD) (h : k0_dev6 (me c) < nD) : (⟨k0_dev6 (me c), h⟩ : Dev nD) = far 1 c := by revert c; decide

theorem off2_eq (c : Dev nD) : k0_off2 (me c) = ![c.val] := by revert c; decide
theorem off3_eq (c : Dev nD) : k0_off3 (me c) = ![c.val, 0, 0] := by revert c; decide
theorem off4_eq (c : Dev nD) : k0_off4 (me c) = ![c.val, 0, 0] := by revert c; decide
theorem off18_eq (c : Dev nD) : k0_off18 (me c) = ![c.val, 0, 0] := by revert c; decide
theorem off5_eq (i : grid0.Coords) (c : Dev nD) : k0_off5 i (me c) = ![(src c (i 0)).val] := by revert i c; decide +kernel
theorem off6_eq (i : grid0.Coords) (c : Dev nD) : k0_off6 i (me c) = ![(src c (i 0)).val, 0, 0] := by revert i c; decide +kernel
theorem off7_eq (i : grid0.Coords) (c : Dev nD) : k0_off7 i (me c) = ![(src c (i 0)).val, 0, 0] := by revert i c; decide +kernel
theorem off8_eq (i : grid0.Coords) : k0_off8 i = ![0, 2048 * (i 1).val] := by revert i; decide +kernel
theorem off9_eq (i : grid0.Coords) : k0_off9 i = ![0, 2048 * (i 1).val] := by revert i; decide +kernel
theorem off13_eq (i : grid0.Coords) : k0_off13 i = ![0, 2048 * (i 1).val] := by revert i; decide +kernel
theorem off16_eq (i : grid0.Coords) : k0_off16 i = ![0, 2048 * (i 1).val] := by revert i; decide +kernel
theorem off10_eq (i : grid0.Coords) : k0_off10 i = ![(i 1).val % 2] := by revert i; decide +kernel
theorem off15_eq (i : grid0.Coords) : k0_off15 i = ![(i 1).val % 2] := by revert i; decide +kernel
theorem off12_eq (i : grid0.Coords) : k0_off12 i = ![(i 1).val % 2, 0, 0] := by revert i; decide +kernel
theorem off14_eq (i : grid0.Coords) : k0_off14 i = ![(i 1).val % 2, 0, 0] := by revert i; decide +kernel
theorem off17_eq (i : grid0.Coords) : k0_off17 i = ![(i 1).val % 2, 0, 0] := by revert i; decide +kernel
theorem off11_eq (i : grid0.Coords) (h : 2 ≤ (i 1).val) : k0_off11 i = ![0, 2048 * ((i 1).val - 2)] := by revert i; decide +kernel

theorem cond1_iff (i : grid0.Coords) : k0_cond1 i = 1#1 ↔ (i 0).val = 0 ∧ (i 1).val = 0 := by revert i; decide +kernel
theorem cond2_iff (i : grid0.Coords) : k0_cond2 i = 1#1 ↔ 0 < (i 0).val ∧ (i 1).val = 0 := by revert i; decide +kernel
theorem cond3_iff (i : grid0.Coords) : k0_cond3 i = 1#1 ↔ (i 0).val = 0 := by revert i; decide +kernel
theorem cond4_iff (i : grid0.Coords) : k0_cond4 i = 1#1 ↔ 0 < (i 0).val ∧ (i 0).val < 3 := by revert i; decide +kernel
theorem cond5_iff (i : grid0.Coords) : k0_cond5 i = 1#1 ↔ (i 0).val = 3 := by revert i; decide +kernel
theorem cond6_iff (i : grid0.Coords) : k0_cond6 i = 1#1 ↔ 2 ≤ (i 1).val := by revert i; decide +kernel
theorem cond7_iff (i : grid0.Coords) : k0_cond7 i = 1#1 ↔ (i 0).val = 3 ∧ (i 1).val = 3 := by revert i; decide +kernel

/-! ## Indices and slots -/

/-- The index of a three-axis shape with the given coordinates. -/
def ix3 {a b d : ℕ} (x : Fin a) (y : Fin b) (z : Fin d) : (⟨3, ![a, b, d]⟩ : Shape).Idx := Fin.cons x (Fin.cons y (Fin.cons z finZeroElim))
/-- The index of a two-axis shape with the given coordinates. -/
def ix2 {a b : ℕ} (x : Fin a) (y : Fin b) : (⟨2, ![a, b]⟩ : Shape).Idx := Fin.cons x (Fin.cons y finZeroElim)

/-- Slot `k` of a slot buffer: the indices whose leading coordinate is `k`. -/
def slot {a b d : ℕ} (k : ℕ) : Finset (⟨3, ![a, b, d]⟩ : Shape).Idx := Finset.univ.filter fun i => (i 0).val = k

theorem mem_slot {a b d k : ℕ} {i : (⟨3, ![a, b, d]⟩ : Shape).Idx} : i ∈ slot k ↔ (i 0).val = k := by simp [slot]

/-- Column block `j` of an array of 8192 columns: 2048 of them from `2048 j`. -/
def cols {a b : ℕ} (j : ℕ) : Finset (⟨2, ![a, b]⟩ : Shape).Idx := Finset.univ.filter fun i => (i 1).val / 2048 = j

theorem mem_cols {a b j : ℕ} {i : (⟨2, ![a, b]⟩ : Shape).Idx} : i ∈ cols j ↔ (i 1).val / 2048 = j := by simp [cols]

section Views

variable {a b d : ℕ}

/-- The rectangle of slot `k`. -/
theorem slot_set {off : Fin 3 → ℕ} {k : ℕ} (h : off = ![k, 0, 0]) (inb : ∀ x, off x + (![1, b, d] : Fin 3 → ℕ) x ≤ (![a, b, d] : Fin 3 → ℕ) x) :
    (Rect.unit (s := (⟨3, ![a, b, d]⟩ : Shape)) off ![1, b, d] inb).set = slot k := by
  subst h
  ext i
  rw [Rect.mem_set_unit, mem_slot]
  constructor
  · intro h
    have h0 := h 0
    simp at h0
    omega
  · intro h x
    fin_cases x
    · simp; omega
    · have := (i 1).isLt; simpa using this
    · have := (i 2).isLt; simpa using this

/-- The rectangle of column block `j`. -/
theorem cols_set {off : Fin 2 → ℕ} {j : ℕ} (h : off = ![0, 2048 * j]) (inb : ∀ x, off x + (![a, 2048] : Fin 2 → ℕ) x ≤ (![a, b] : Fin 2 → ℕ) x) :
    (Rect.unit (s := (⟨2, ![a, b]⟩ : Shape)) off ![a, 2048] inb).set = cols j := by
  subst h
  ext i
  rw [Rect.mem_set_unit, mem_cols]
  constructor
  · intro h
    have h0 := h 1
    simp at h0
    omega
  · intro h x
    fin_cases x
    · have := (i 0).isLt; simpa using this
    · simp; omega

end Views

end Cert.AllToAll

end
-- ==== Proof.Slots.lean ====
/-
  What the kernel's views of its buffers read and write, each buffer's contents named as a function of the whole
  buffer's index: a slot holds `spread w` (the block `w` read at the last two coordinates), a column block holds
  `tile w`.
-/
module

public import proofs.«01_k».proof.Proof.Place

@[expose] public section

noncomputable section

namespace Cert.AllToAll

open Cert.KernelIdeal Cert.KernelIdeal.Gen
open Idealize.ShloMosaic
open Idealize.ShloMosaic.TcCoe

variable {F : FTy → Type} [FloatOps F]

section Index

variable {a b d : ℕ} {α : Type}

theorem ix3_eta (i : (⟨3, ![a, b, d]⟩ : Shape).Idx) : ix3 (a := a) (b := b) (d := d) (i 0) (i 1) (i 2) = i := by
  funext x; fin_cases x <;> rfl
theorem ix2_eta (i : (⟨2, ![a, b]⟩ : Shape).Idx) : ix2 (a := a) (b := b) (i 0) (i 1) = i := by
  funext x; fin_cases x <;> rfl

/-- The block `w` laid on every slot of a slot buffer. -/
def spread (a : ℕ) {b d : ℕ} (w : (⟨3, ![1, b, d]⟩ : Shape).Idx → α) : (⟨3, ![a, b, d]⟩ : Shape).Idx → α :=
  fun i => w (ix3 0 (i 1) (i 2))

/-- The block `w` of 2048 columns laid on every column block. -/
def tile (b : ℕ) {a : ℕ} (w : (⟨2, ![a, 2048]⟩ : Shape).Idx → α) : (⟨2, ![a, b]⟩ : Shape).Idx → α :=
  fun i => w (ix2 (i 0) ⟨(i 1).val % 2048, Nat.mod_lt _ (by decide)⟩)

/-- Where slot `k`'s rectangle puts a slot's index. -/
theorem slot_emb {off : Fin 3 → ℕ} {k : ℕ} (h : off = ![k, 0, 0]) (inb : ∀ x, off x + (![1, b, d] : Fin 3 → ℕ) x ≤ (![a, b, d] : Fin 3 → ℕ) x)
    (i : (⟨3, ![a, b, d]⟩ : Shape).Idx) (hi : i ∈ slot k) :
    (Rect.unit (s := (⟨3, ![a, b, d]⟩ : Shape)) off ![1, b, d] inb).emb (ix3 (a := 1) (b := b) (d := d) 0 (i 1) (i 2)) = i := by
  subst h
  rw [mem_slot] at hi
  funext x
  apply Fin.ext
  rw [Rect.emb_apply]
  fin_cases x
  · show k + 1 * 0 = (i 0).val; omega
  · exact (Nat.zero_add _).trans (Nat.one_mul _)
  · exact (Nat.zero_add _).trans (Nat.one_mul _)

/-- Where column block `j`'s rectangle puts a column block's index. -/
theorem cols_emb {off : Fin 2 → ℕ} {j : ℕ} (h : off = ![0, 2048 * j]) (inb : ∀ x, off x + (![a, 2048] : Fin 2 → ℕ) x ≤ (![a, b] : Fin 2 → ℕ) x)
    (i : (⟨2, ![a, b]⟩ : Shape).Idx) (hi : i ∈ cols j) :
    (Rect.unit (s := (⟨2, ![a, b]⟩ : Shape)) off ![a, 2048] inb).emb
      (ix2 (a := a) (b := 2048) (i 0) ⟨(i 1).val % 2048, Nat.mod_lt _ (by decide)⟩) = i := by
  subst h
  rw [mem_cols] at hi
  funext x
  apply Fin.ext
  rw [Rect.emb_apply]
  fin_cases x
  · exact (Nat.zero_add _).trans (Nat.one_mul _)
  · show 2048 * j + 1 * ((i 1).val % 2048) = (i 1).val; omega

/-- A slot squeezed to two axes: its index behind a leading zero. -/
theorem squeeze_idx (h : (⟨2, ![b, d]⟩ : Shape).numel = (⟨3, ![1, b, d]⟩ : Shape).numel) (y : (⟨2, ![b, d]⟩ : Shape).Idx) :
    Shape.reshapeEquiv h y = ix3 (a := 1) (b := b) (d := d) 0 (y 0) (y 1) := by
  rw [show Shape.reshapeEquiv h y = Fin.cons ⟨0, Nat.one_pos⟩ y from Shape.reshapeEquiv_cons_one (n := 2) (d := ![b, d]) h y]
  funext x
  fin_cases x <;> rfl

end Index

section View

variable {sg : RefSig} {κ : Kind} {sp : Space} {e : EltTy} {Val : EltTy → Type}
variable {s : Shape} (v : View sg κ sp s e)

/-- A slice written whole, at the slice's index. -/
theorem slice_write (r : Rect s) (f : v.ty.Contents Val) (w : r.shape.Idx → Val e) (x : r.shape.Idx) :
    (v.slice r).write Val f w Finset.univ (v.emb (r.emb x)) = _root_.cast (congrArg Val v.elt_eq.symm) (w x) :=
  (v.slice r).write_emb_of_mem f w (Finset.mem_univ x)

/-- A reshaped slice written whole, at the slice's index. -/
theorem reshape_write (r : Rect s) (s' : Shape) (h : s'.numel = r.shape.numel) (f : v.ty.Contents Val) (w : s'.Idx → Val e) (y : s'.Idx) :
    ((v.slice r).reshape s' h).write Val f w Finset.univ (v.emb (r.emb (Shape.reshapeEquiv h y))) = _root_.cast (congrArg Val v.elt_eq.symm) (w y) :=
  ((v.slice r).reshape s' h).write_emb_of_mem f w (Finset.mem_univ y)

end View

/-! ## The kernel's buffers -/

abbrev xM : Memref sig .tc .hbm S4096x1024 .f32 := Memref.whole main_arg0
abbrev oM : Memref sig .tc .hbm S1024x8192 .bf16 := Memref.whole main_v6
abbrev accM : Memref sig .tc .vmem S1024x8192 .bf16 := Memref.whole cc0_scratch0
abbrev xgM : Memref sig .tc .vmem S4x1024x1024 .fp8e4m3 := Memref.whole cc0_scratch1
abbrev obM : Memref sig .tc .vmem S2x1024x2048 .bf16 := Memref.whole cc0_scratch2
abbrev xsM : Memref sig .tc .vmem S3x1024x1024 .fp8e4m3 := Memref.whole cc0_scratch3
abbrev stM : Memref sig .tc .vmem S2x1024x1024 .f32 := Memref.whole cc0_scratch4

/-! ### Stores into a slot and a column block -/

section Stores

theorem xg_store {off : Fin 3 → ℕ} {k : ℕ} (h : off = ![k, 0, 0]) (inb) (f : S4x1024x1024.Idx → Elt F .fp8e4m3) (w : S1x1024x1024.Idx → Elt F .fp8e4m3)
    (i : S4x1024x1024.Idx) (hi : i ∈ slot k) :
    (xgM.access (Rect.unit (s := S4x1024x1024) off S1x1024x1024.size inb)).write (Elt F) f w Finset.univ i = spread 4 w i := by
  have := slice_write (Val := Elt F) xgM.view (Rect.unit (s := S4x1024x1024) off S1x1024x1024.size inb) f w (ix3 (a := 1) (b := 1024) (d := 1024) 0 (i 1) (i 2))
  rw [slot_emb h inb i hi] at this
  exact this

theorem xs_store {off : Fin 3 → ℕ} {k : ℕ} (h : off = ![k, 0, 0]) (inb) (f : S3x1024x1024.Idx → Elt F .fp8e4m3) (w : S1x1024x1024.Idx → Elt F .fp8e4m3)
    (i : S3x1024x1024.Idx) (hi : i ∈ slot k) :
    (xsM.access (Rect.unit (s := S3x1024x1024) off S1x1024x1024.size inb)).write (Elt F) f w Finset.univ i = spread 3 w i := by
  have := slice_write (Val := Elt F) xsM.view (Rect.unit (s := S3x1024x1024) off S1x1024x1024.size inb) f w (ix3 (a := 1) (b := 1024) (d := 1024) 0 (i 1) (i 2))
  rw [slot_emb h inb i hi] at this
  exact this

theorem ob_store {off : Fin 3 → ℕ} {k : ℕ} (h : off = ![k, 0, 0]) (inb) (f : S2x1024x2048.Idx → Elt F .bf16) (w : S1x1024x2048.Idx → Elt F .bf16)
    (i : S2x1024x2048.Idx) (hi : i ∈ slot k) :
    (obM.access (Rect.unit (s := S2x1024x2048) off S1x1024x2048.size inb)).write (Elt F) f w Finset.univ i = spread 2 w i := by
  have := slice_write (Val := Elt F) obM.view (Rect.unit (s := S2x1024x2048) off S1x1024x2048.size inb) f w (ix3 (a := 1) (b := 1024) (d := 2048) 0 (i 1) (i 2))
  rw [slot_emb h inb i hi] at this
  exact this

theorem acc_store {off : Fin 2 → ℕ} {j : ℕ} (h : off = ![0, 2048 * j]) (inb) (f : S1024x8192.Idx → Elt F .bf16) (w : S1024x2048.Idx → Elt F .bf16)
    (i : S1024x8192.Idx) (hi : i ∈ cols j) :
    (accM.access (Rect.unit (s := S1024x8192) off S1024x2048.size inb)).write (Elt F) f w Finset.univ i = tile 8192 w i := by
  have := slice_write (Val := Elt F) accM.view (Rect.unit (s := S1024x8192) off S1024x2048.size inb) f w
    (ix2 (a := 1024) (b := 2048) (i 0) ⟨(i 1).val % 2048, Nat.mod_lt _ (by decide)⟩)
  rw [cols_emb h inb i hi] at this
  exact this

end Stores

/-! ### Loads of a slot and a column block -/

section Loads

theorem xg_load {off : Fin 3 → ℕ} {k : ℕ} (h : off = ![k, 0, 0]) (inb) (w : S1x1024x1024.Idx → Elt F .fp8e4m3) :
    (xgM.access (Rect.unit (s := S4x1024x1024) off S1x1024x1024.size inb)).read (Elt F) (spread 4 w) = w := by
  subst h
  funext j
  show w _ = w j
  congr 1
  funext x
  apply Fin.ext
  fin_cases x
  · exact (Nat.lt_one_iff.mp (j 0).isLt).symm
  · exact (Nat.zero_add _).trans (Nat.one_mul _)
  · exact (Nat.zero_add _).trans (Nat.one_mul _)

theorem acc_load {off : Fin 2 → ℕ} {k : ℕ} (h : off = ![0, 2048 * k]) (inb) (w : S1024x2048.Idx → Elt F .bf16) :
    (accM.access (Rect.unit (s := S1024x8192) off S1024x2048.size inb)).read (Elt F) (tile 8192 w) = w := by
  subst h
  funext j
  show w _ = w j
  congr 1
  funext x
  apply Fin.ext
  fin_cases x
  · exact (Nat.zero_add _).trans (Nat.one_mul _)
  · show (2048 * k + 1 * (j 1).val) % 2048 = (j 1).val
    have h1 : (j 1).val < 2048 := (j 1).isLt
    omega

end Loads

/-! ### The staged block of `x` -/

/-- Rows `1024 d` on of a column shard `X`, as a slot's block. -/
def rows (X : S4096x1024.Idx → Elt F .f32) (d : Fin 4) : S1x1024x1024.Idx → Elt F .f32 :=
  fun j => X (ix2 (a := 4096) (b := 1024) ⟨1024 * d.val + (j 1).val, by have := (j 1).isLt; have := d.isLt; simp at *; omega⟩ (j 2))

/-- The stage's load reads back the block laid on it. -/
theorem st_load {off : Fin 3 → ℕ} {k : ℕ} (h : off = ![k, 0, 0]) (inb) (w : S1x1024x1024.Idx → Elt F .f32) :
    (stM.access (Rect.unit (s := S2x1024x1024) off S1x1024x1024.size inb)).read (Elt F) (spread 2 w) = w := by
  subst h
  funext j
  show w _ = w j
  congr 1
  funext x
  apply Fin.ext
  fin_cases x
  · exact (Nat.lt_one_iff.mp (j 0).isLt).symm
  · exact (Nat.zero_add _).trans (Nat.one_mul _)
  · exact (Nat.zero_add _).trans (Nat.one_mul _)

/-- A row block of `x` landed in a stage slot. -/
theorem st_land {off : Fin 3 → ℕ} {k : ℕ} (h : off = ![k, 0, 0]) (inb) {xoff : Fin 2 → ℕ} {d : Fin 4} (hx : xoff = ![1024 * d.val, 0]) (xinb)
    (hq) (X : S4096x1024.Idx → Elt F .f32) (f : S2x1024x1024.Idx → Elt F .f32) (i : S2x1024x1024.Idx) (hi : i ∈ slot k) :
    ((stM.slice (Rect.unit (s := S2x1024x1024) off S1x1024x1024.size inb) (fun _ => rfl)).squeeze S1024x1024 hq).view.write (Elt F) f
      ((xM.slice (Rect.unit (s := S4096x1024) xoff S1024x1024.size xinb) (fun _ => rfl)).view.read (Elt F) X) Finset.univ i = spread 2 (rows X d) i := by
  have := reshape_write (Val := Elt F) stM.view (Rect.unit (s := S2x1024x1024) off S1x1024x1024.size inb) S1024x1024 (Shape.Squeezes.numel_eq hq) f
    ((xM.slice (Rect.unit (s := S4096x1024) xoff S1024x1024.size xinb) (fun _ => rfl)).view.read (Elt F) X) (ix2 (a := 1024) (b := 1024) (i 1) (i 2))
  rw [squeeze_idx (b := 1024) (d := 1024)] at this
  rw [show (ix3 (a := 1) (b := 1024) (d := 1024) 0 ((ix2 (a := 1024) (b := 1024) (i 1) (i 2)) 0) ((ix2 (a := 1024) (b := 1024) (i 1) (i 2)) 1)) = ix3 (a := 1) (b := 1024) (d := 1024) 0 (i 1) (i 2) from rfl,
    slot_emb h inb i hi] at this
  refine (Eq.trans ?_ this).trans ?_
  · rfl
  subst hx
  show X _ = X _
  congr 1
  funext x
  apply Fin.ext
  fin_cases x
  · exact congrArg (1024 * d.val + ·) (Nat.one_mul _)
  · exact (Nat.zero_add _).trans (Nat.one_mul _)

/-! ### The remote copies and the write-back -/

/-- A sent slot landed in a peer's slot. -/
theorem xg_land {off : Fin 3 → ℕ} {k : ℕ} (h : off = ![k, 0, 0]) (inb) {off' : Fin 3 → ℕ} {k' : ℕ} (h' : off' = ![k', 0, 0]) (inb')
    (hq hq') (w : S1x1024x1024.Idx → Elt F .fp8e4m3) (f : S4x1024x1024.Idx → Elt F .fp8e4m3) (i : S4x1024x1024.Idx) (hi : i ∈ slot k) :
    ((xgM.slice (Rect.unit (s := S4x1024x1024) off S1x1024x1024.size inb) (fun _ => rfl)).squeeze S1024x1024 hq).view.write (Elt F) f
      (((xsM.slice (Rect.unit (s := S3x1024x1024) off' S1x1024x1024.size inb') (fun _ => rfl)).squeeze S1024x1024 hq').view.read (Elt F) (spread 3 w))
      Finset.univ i = spread 4 w i := by
  have := reshape_write (Val := Elt F) xgM.view (Rect.unit (s := S4x1024x1024) off S1x1024x1024.size inb) S1024x1024 (Shape.Squeezes.numel_eq hq) f
    (((xsM.slice (Rect.unit (s := S3x1024x1024) off' S1x1024x1024.size inb') (fun _ => rfl)).squeeze S1024x1024 hq').view.read (Elt F) (spread 3 w)) (ix2 (a := 1024) (b := 1024) (i 1) (i 2))
  rw [squeeze_idx (b := 1024) (d := 1024)] at this
  rw [show (ix3 (a := 1) (b := 1024) (d := 1024) 0 ((ix2 (a := 1024) (b := 1024) (i 1) (i 2)) 0) ((ix2 (a := 1024) (b := 1024) (i 1) (i 2)) 1)) = ix3 (a := 1) (b := 1024) (d := 1024) 0 (i 1) (i 2) from rfl,
    slot_emb h inb i hi] at this
  refine (Eq.trans ?_ this).trans ?_
  · rfl
  subst h'
  show spread 3 w ((Rect.unit (s := S3x1024x1024) ![k', 0, 0] S1x1024x1024.size inb').emb (Shape.reshapeEquiv _ _)) = _
  rw [squeeze_idx (b := 1024) (d := 1024)]
  show w _ = w _
  congr 1
  funext x
  apply Fin.ext
  fin_cases x
  · rfl
  · exact (Nat.zero_add _).trans (Nat.one_mul _)
  · exact (Nat.zero_add _).trans (Nat.one_mul _)

/-- A column block of the result, read off a slot's block. -/
def flat (w : S1x1024x2048.Idx → Elt F .bf16) : S1024x2048.Idx → Elt F .bf16 := fun j => w (ix3 (a := 1) (b := 1024) (d := 2048) 0 (j 0) (j 1))

/-- An output slot's squeezed view reads its block flat. -/
theorem ob_read {off' : Fin 3 → ℕ} {k' : ℕ} (h' : off' = ![k', 0, 0]) (inb') (hq') (w : S1x1024x2048.Idx → Elt F .bf16) :
    ((obM.slice (Rect.unit (s := S2x1024x2048) off' S1x1024x2048.size inb') (fun _ => rfl)).squeeze S1024x2048 hq').view.read (Elt F) (spread 2 w) = flat w := by
  subst h'
  funext j
  show spread 2 w ((Rect.unit (s := S2x1024x2048) ![k', 0, 0] S1x1024x2048.size inb').emb (Shape.reshapeEquiv _ _)) = _
  rw [squeeze_idx (b := 1024) (d := 2048)]
  show w _ = w _
  congr 1
  funext x
  apply Fin.ext
  fin_cases x
  · rfl
  · exact (Nat.zero_add _).trans (Nat.one_mul _)
  · exact (Nat.zero_add _).trans (Nat.one_mul _)

/-- An output slot written back to its column block of the result. -/
theorem out_land {off : Fin 2 → ℕ} {j : ℕ} (h : off = ![0, 2048 * j]) (inb) {off' : Fin 3 → ℕ} {k' : ℕ} (h' : off' = ![k', 0, 0]) (inb')
    (hq') (w : S1x1024x2048.Idx → Elt F .bf16) (f : S1024x8192.Idx → Elt F .bf16) (i : S1024x8192.Idx) (hi : i ∈ cols j) :
    (oM.slice (Rect.unit (s := S1024x8192) off S1024x2048.size inb) (fun _ => rfl)).view.write (Elt F) f
      (((obM.slice (Rect.unit (s := S2x1024x2048) off' S1x1024x2048.size inb') (fun _ => rfl)).squeeze S1024x2048 hq').view.read (Elt F) (spread 2 w))
      Finset.univ i = tile 8192 (flat w) i := by
  rw [ob_read h' inb' hq' w]
  have := slice_write (Val := Elt F) oM.view (Rect.unit (s := S1024x8192) off S1024x2048.size inb) f (flat w)
    (ix2 (a := 1024) (b := 2048) (i 0) ⟨(i 1).val % 2048, Nat.mod_lt _ (by decide)⟩)
  rw [cols_emb h inb i hi] at this
  exact this

/-! ### The views' element sets -/

theorem xg_set {off : Fin 3 → ℕ} {k : ℕ} (h : off = ![k, 0, 0]) (inb) (hq) :
    ((xgM.slice (Rect.unit (s := S4x1024x1024) off S1x1024x1024.size inb) (fun _ => rfl)).squeeze S1024x1024 hq).view.set = slot (a := 4) (b := 1024) (d := 1024) k :=
  (View.set_reshape _ _).trans ((View.set_slice_whole _ _).trans (slot_set h inb))
theorem xs_set {off : Fin 3 → ℕ} {k : ℕ} (h : off = ![k, 0, 0]) (inb) (hq) :
    ((xsM.slice (Rect.unit (s := S3x1024x1024) off S1x1024x1024.size inb) (fun _ => rfl)).squeeze S1024x1024 hq).view.set = slot (a := 3) (b := 1024) (d := 1024) k :=
  (View.set_reshape _ _).trans ((View.set_slice_whole _ _).trans (slot_set h inb))
theorem st_set {off : Fin 3 → ℕ} {k : ℕ} (h : off = ![k, 0, 0]) (inb) (hq) :
    ((stM.slice (Rect.unit (s := S2x1024x1024) off S1x1024x1024.size inb) (fun _ => rfl)).squeeze S1024x1024 hq).view.set = slot (a := 2) (b := 1024) (d := 1024) k :=
  (View.set_reshape _ _).trans ((View.set_slice_whole _ _).trans (slot_set h inb))
theorem ob_set {off : Fin 3 → ℕ} {k : ℕ} (h : off = ![k, 0, 0]) (inb) (hq) :
    ((obM.slice (Rect.unit (s := S2x1024x2048) off S1x1024x2048.size inb) (fun _ => rfl)).squeeze S1024x2048 hq).view.set = slot (a := 2) (b := 1024) (d := 2048) k :=
  (View.set_reshape _ _).trans ((View.set_slice_whole _ _).trans (slot_set h inb))
theorem out_set {off : Fin 2 → ℕ} {j : ℕ} (h : off = ![0, 2048 * j]) (inb) :
    (oM.slice (Rect.unit (s := S1024x8192) off S1024x2048.size inb) (fun _ => rfl)).view.set = cols (a := 1024) (b := 8192) j :=
  (View.set_slice_whole _ _).trans (cols_set h inb)
theorem acc_set {off : Fin 2 → ℕ} {j : ℕ} (h : off = ![0, 2048 * j]) (inb) :
    (accM.access (Rect.unit (s := S1024x8192) off S1024x2048.size inb)).set = cols (a := 1024) (b := 8192) j :=
  (View.set_slice_whole _ _).trans (cols_set h inb)
theorem xg_aset {off : Fin 3 → ℕ} {k : ℕ} (h : off = ![k, 0, 0]) (inb) :
    (xgM.access (Rect.unit (s := S4x1024x1024) off S1x1024x1024.size inb)).set = slot (a := 4) (b := 1024) (d := 1024) k :=
  (View.set_slice_whole _ _).trans (slot_set h inb)
theorem xs_aset {off : Fin 3 → ℕ} {k : ℕ} (h : off = ![k, 0, 0]) (inb) :
    (xsM.access (Rect.unit (s := S3x1024x1024) off S1x1024x1024.size inb)).set = slot (a := 3) (b := 1024) (d := 1024) k :=
  (View.set_slice_whole _ _).trans (slot_set h inb)
theorem st_aset {off : Fin 3 → ℕ} {k : ℕ} (h : off = ![k, 0, 0]) (inb) :
    (stM.access (Rect.unit (s := S2x1024x1024) off S1x1024x1024.size inb)).set = slot (a := 2) (b := 1024) (d := 1024) k :=
  (View.set_slice_whole _ _).trans (slot_set h inb)
theorem ob_aset {off : Fin 3 → ℕ} {k : ℕ} (h : off = ![k, 0, 0]) (inb) :
    (obM.access (Rect.unit (s := S2x1024x2048) off S1x1024x2048.size inb)).set = slot (a := 2) (b := 1024) (d := 2048) k :=
  (View.set_slice_whole _ _).trans (slot_set h inb)

end Cert.AllToAll

end
-- ==== Proof.Protocol.lean ====
/-
  The protocol of the all-to-all, cell by cell, with the contents each landing hands over.

  * BARRIER cell of `c` (one round, three duties, one unit each): peer `p` signals it once and hands `c` slot `c` of
    `p`'s gather buffer (contents not chosen) and the mark that `p`'s receive cell `c` is open. `c` waits for all
    three before it sends anything.
  * RECEIVE cell `s` of `c` (`s ≠ c`; one round, one duty): the copy of device `s` lands device `s`'s block for `c`
    in slot `s` of `c`'s gather buffer. `c` waits for it at the first point of the pass that multiplies block `s`.
    Receive cell `c` of `c` has no duty.
  * SEND cell `k` of `c` (one round, one duty): `c`'s own `k`-th copy gives its source slot back; `c` waits for all
    three at the last point.
  * The staging and write-back semaphores count local copies only.

  The receive and send cells are scoped to the kernel, so their invariants start out dormant and are opened at its entry.
-/
module

public import proofs.«01_k».proof.Proof.Slots

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the protocol's rounds, the local copies' counters -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

variable (m : (ℓ : Loc nD τ sig) → Buf (Elt F) ℓ)

/-! ## Cells -/

abbrev barS : Sem sig := (SemArray.scalar (sig.barrier 0 rfl) : Sems sig S_).sem
def sendS (k : Fin 3) : DmaSem sig := ⟨4 + k.val, by have := k.isLt; show 4 + k.val < 15; omega⟩
def recvS (s : Fin 4) : DmaSem sig := ⟨7 + s.val, by have := s.isLt; show 7 + s.val < 15; omega⟩
def stageS (k : Fin 2) : DmaSem sig := ⟨11 + k.val, by have := k.isLt; show 11 + k.val < 15; omega⟩
def outS (k : Fin 2) : DmaSem sig := ⟨13 + k.val, by have := k.isLt; show 13 + k.val < 15; omega⟩

abbrev barCell (c : Dev nD) : GSem nD τ sig := ((c : Thread nD τ), .reg barS)
abbrev sendCell (c : Dev nD) (k : Fin 3) : GSem nD τ sig := ((c : Thread nD τ), .dma (sendS k))
abbrev recvCell (c : Dev nD) (s : Fin 4) : GSem nD τ sig := ((c : Thread nD τ), .dma (recvS s))

theorem send_sem {off : Fin 1 → ℕ} (k : Fin 3) (h : off = ![k.val]) (inb) (hq) :
    ((cc0_scratch5.slice (Rect.unit (s := S3) off S1.size inb)).squeeze S_ hq).sem = sendS k := by
  subst h; revert k; decide
theorem recv_sem {off : Fin 1 → ℕ} (k : Fin 4) (h : off = ![k.val]) (inb) (hq) :
    ((cc0_scratch6.slice (Rect.unit (s := S4) off S1.size inb)).squeeze S_ hq).sem = recvS k := by
  subst h; revert k; decide
theorem stage_sem {off : Fin 1 → ℕ} (k : Fin 2) (h : off = ![k.val]) (inb) (hq) :
    ((cc0_scratch7.slice (Rect.unit (s := S2) off S1.size inb)).squeeze S_ hq).sem = stageS k := by
  subst h; revert k; decide
theorem out_sem {off : Fin 1 → ℕ} (k : Fin 2) (h : off = ![k.val]) (inb) (hq) :
    ((cc0_scratch8.slice (Rect.unit (s := S2) off S1.size inb)).squeeze S_ hq).sem = outS k := by
  subst h; revert k; decide

/-! ## Contents -/

/-- Device `s`'s block for device `d`: rows `1024 d` on of its column shard of `x`, each element rounded. -/
def chunk (s d : Dev nD) : S1x1024x1024.Idx → Elt F .fp8e4m3 := k0_pay3 (rows (m ((s : Thread nD τ).loc main_arg0)) d)

/-- What a copy of a block credits. -/
def N : ℕ := ((xgM.slice (Rect.unit (s := S4x1024x1024) ![0, 0, 0] S1x1024x1024.size (by decide)) (fun _ => rfl)).squeeze S1024x1024 squeezes_S1x1024x1024_S1024x1024).view.dmaCredit
theorem N_pos : 0 < N := View.dmaCredit_pos _ (by decide)

/-- Slot `k` of device `c`'s gather buffer at contents `f`. -/
abbrev xg (c : Dev nD) (k : ℕ) (f : S4x1024x1024.Idx → Elt F .fp8e4m3) : sProp 𝕄 :=
  ((c : Thread nD τ).loc cc0_scratch1) ↦[slot (a := 4) (b := 1024) (d := 1024) k]{fullShare} f
/-- Slot `k` of device `c`'s send buffer. -/
abbrev xs (c : Dev nD) (k : ℕ) (f : S3x1024x1024.Idx → Elt F .fp8e4m3) : sProp 𝕄 :=
  ((c : Thread nD τ).loc cc0_scratch3) ↦[slot (a := 3) (b := 1024) (d := 1024) k]{fullShare} f
/-- Slot `k` of device `c`'s stage. -/
abbrev st (c : Dev nD) (k : ℕ) (f : S2x1024x1024.Idx → Elt F .f32) : sProp 𝕄 :=
  ((c : Thread nD τ).loc cc0_scratch4) ↦[slot (a := 2) (b := 1024) (d := 1024) k]{fullShare} f
/-- Slot `k` of device `c`'s output buffer. -/
abbrev ob (c : Dev nD) (k : ℕ) (f : S2x1024x2048.Idx → Elt F .bf16) : sProp 𝕄 :=
  ((c : Thread nD τ).loc cc0_scratch2) ↦[slot (a := 2) (b := 1024) (d := 2048) k]{fullShare} f
/-- Column block `j` of device `c`'s accumulator. -/
abbrev acc (c : Dev nD) (j : ℕ) (f : S1024x8192.Idx → Elt F .bf16) : sProp 𝕄 :=
  ((c : Thread nD τ).loc cc0_scratch0) ↦[cols (a := 1024) (b := 8192) j]{fullShare} f
/-- Column block `j` of device `c`'s result. -/
abbrev out (c : Dev nD) (j : ℕ) (f : S1024x8192.Idx → Elt F .bf16) : sProp 𝕄 :=
  ((c : Thread nD τ).loc main_v6) ↦[cols (a := 1024) (b := 8192) j]{fullShare} f

/-! ## The schedule -/

/-- What peer `p` hands `c` with its barrier signal. -/
def barPay (c p : Dev nD) : sProp 𝕄 := iprop((∃ f, xg p c.val f) ∗ reached ER (recvCell p c) 0)
/-- What the copy of device `s` hands `c`. -/
def recvPay (c s : Dev nD) : sProp 𝕄 := xg c s.val (spread 4 (chunk m s c))
/-- What `c`'s own copy out of send slot `k` hands back. -/
def sendPay (c : Dev nD) (k : ℕ) : sProp 𝕄 := iprop(∃ f, xs c k f)

/-- Who pays in round 0 of a cell of device `c`. -/
def payers (c : Dev nD) : SemLoc sig → Finset (Dev nD)
  | .reg _ => Finset.univ.erase c
  | .dma n => Finset.univ.filter fun d => (n.val = 7 + d.val ∧ d ≠ c) ∨ (4 ≤ n.val ∧ n.val < 7 ∧ d = c)

theorem payers_send (c : Dev nD) (k : Fin 3) : payers c (.dma (sendS k)) = {c} := by revert c k; decide
theorem payers_recv (c : Dev nD) (s : Fin 4) (h : s ≠ c) : payers c (.dma (recvS s)) = {s} := by revert c s; decide
theorem payers_self (c : Dev nD) : payers c (.dma (recvS c)) = ∅ := by revert c; decide

def Rd : Rounds.Schedule (GSem nD τ sig) (Dev nD) 𝕄 where
  duties g r := if r = 0 ∧ g.1.2 = .tc then payers g.1.1 g.2 else ∅
  unitless _ := False
  amount g _ _ := match g.2 with
    | .reg _ => 1
    | .dma _ => N
  payload g _ d := match g.2 with
    | .reg _ => barPay g.1.1 d
    | .dma n => if 7 ≤ n.val then recvPay m g.1.1 d else sendPay g.1.1 (n.val - 4)
  amount_pos g _ _ _ := by
    cases g.2
    · exact Nat.one_pos
    · exact N_pos

instance Rd_payload_storable (g : GSem nD τ sig) (r : ℕ) (d : Dev nD) :
    BI.Storable (upEmb : UEmb _ 𝕄) ((Rd (F := F) m).payload g r d) := by
  obtain ⟨t, sm⟩ := g
  cases sm with
  | reg n => show BI.Storable upEmb (barPay t.1 d); unfold barPay; infer_instance
  | dma n =>
    show BI.Storable upEmb (if 7 ≤ n.val then recvPay m t.1 d else sendPay t.1 (n.val - 4))
    unfold recvPay sendPay
    split <;> infer_instance

section Tables

variable (c : Dev nD)

theorem duties_bar : (Rd (F := F) m).duties (barCell c) 0 = Finset.univ.erase c := by
  dsimp only [Rd]; exact if_pos ⟨rfl, rfl⟩
theorem duties_send (k : Fin 3) : (Rd (F := F) m).duties (sendCell c k) 0 = {c} := by
  dsimp only [Rd]
  rw [if_pos ⟨rfl, rfl⟩]
  exact payers_send c k
theorem duties_recv (s : Fin 4) (h : s ≠ c) : (Rd (F := F) m).duties (recvCell c s) 0 = {s} := by
  dsimp only [Rd]
  rw [if_pos ⟨rfl, rfl⟩]
  exact payers_recv c s h
theorem duties_self : (Rd (F := F) m).duties (recvCell c c) 0 = ∅ := by
  dsimp only [Rd]
  rw [if_pos ⟨rfl, rfl⟩]
  exact payers_self c
theorem duties_later (g : GSem nD τ sig) : ∀ r, 1 ≤ r → (Rd (F := F) m).duties g r = ∅ :=
  fun r hr => by
    dsimp only [Rd]; exact if_neg fun h => by omega
theorem duties_self_all : ∀ r, 0 ≤ r → (Rd (F := F) m).duties (recvCell c c) r = ∅ := by
  intro r _
  cases r with
  | zero => exact duties_self m c
  | succ n => exact duties_later m _ _ (by omega)

theorem amount_bar (d : Dev nD) : (Rd (F := F) m).amount (barCell c) 0 d = 1 := rfl
theorem amount_send (k : Fin 3) (d : Dev nD) : (Rd (F := F) m).amount (sendCell c k) 0 d = N := rfl
theorem amount_recv (s : Fin 4) (d : Dev nD) : (Rd (F := F) m).amount (recvCell c s) 0 d = N := rfl

theorem payload_bar (p : Dev nD) : (Rd (F := F) m).payload (barCell c) 0 p = barPay c p := rfl
theorem payload_send (k : Fin 3) (d : Dev nD) : (Rd (F := F) m).payload (sendCell c k) 0 d = sendPay c k.val := by
  show (if 7 ≤ 4 + k.val then recvPay m c d else sendPay c (4 + k.val - 4)) = _
  rw [if_neg (by have := k.isLt; omega), Nat.add_sub_cancel_left]
theorem payload_recv (s : Fin 4) (d : Dev nD) : (Rd (F := F) m).payload (recvCell c s) 0 d = recvPay m c d := by
  show (if 7 ≤ 7 + s.val then recvPay m c d else sendPay c (7 + s.val - 4)) = _
  rw [if_pos (by omega)]

theorem expect_bar : (Rd (F := F) m).expect (barCell c) 0 = 3 := by
  unfold Schedule.expect Schedule.amountOf
  rw [duties_bar, Finset.sum_congr rfl fun d _ => amount_bar m c d]
  revert c; decide
theorem expect_send (k : Fin 3) : (Rd (F := F) m).expect (sendCell c k) 0 = N := by
  unfold Schedule.expect Schedule.amountOf; rw [duties_send, Finset.sum_singleton, amount_send]
theorem expect_recv (s : Fin 4) (h : s ≠ c) : (Rd (F := F) m).expect (recvCell c s) 0 = N := by
  unfold Schedule.expect Schedule.amountOf; rw [duties_recv m c s h, Finset.sum_singleton, amount_recv]

theorem far_ne : c ≠ far 1 c ∧ c ≠ far 2 c ∧ c ≠ far 3 c := by revert c; decide
theorem peers : Finset.univ.erase c = {far 1 c, far 2 c, far 3 c} := by revert c; decide
theorem peers_ne : far 1 c ∉ ({far 2 c, far 3 c} : Finset (Dev nD)) ∧ far 2 c ∉ ({far 3 c} : Finset (Dev nD)) := by revert c; decide

theorem rest_bar : bigSep ((Rd (F := F) m).duties (barCell c) 0 \ ∅) (fun d => (Rd (F := F) m).payload (barCell c) 0 d)
    = iprop(barPay c (far 1 c) ∗ barPay c (far 2 c) ∗ barPay c (far 3 c)) := by
  rw [Finset.sdiff_empty, duties_bar, peers, bigSep_insert (peers_ne c).1, bigSep_insert (peers_ne c).2, bigSep_singleton]
  rfl
theorem rest_send (k : Fin 3) : bigSep ((Rd (F := F) m).duties (sendCell c k) 0 \ ∅) (fun d => (Rd (F := F) m).payload (sendCell c k) 0 d)
    = sendPay c k.val := by
  rw [Finset.sdiff_empty, duties_send, bigSep_singleton, payload_send]
theorem rest_recv (s : Fin 4) (h : s ≠ c) : bigSep ((Rd (F := F) m).duties (recvCell c s) 0 \ ∅) (fun d => (Rd (F := F) m).payload (recvCell c s) 0 d)
    = recvPay m c s := by
  rw [Finset.sdiff_empty, duties_recv m c s h, bigSep_singleton, payload_recv]

end Tables

/-! ## What each core owes at launch, and the levels -/

/-- The unit device `c` owes the barrier cell `h` places on, -/
abbrev owedB (h : ℕ) (c : Dev nD) : CellTallies nD τ sig Unit := tallyAt (barCell (far h c)) () 1
/-- and the credit it owes the receive cell there. -/
abbrev owedR (h : ℕ) (c : Dev nD) : CellTallies nD τ sig Unit := tallyAt (recvCell (far h c) c) () N

/-- The three receive credits: what is owed once the barrier signals are out. -/
def O₁ (c : Dev nD) : CellTallies nD τ sig Unit := owedR 1 c + owedR 2 c + owedR 3 c
def O₀ (c : Dev nD) : CellTallies nD τ sig Unit := O₁ c + owedB 3 c + owedB 2 c + owedB 1 c

def L (g : GSem nD τ sig) : Finset Unit := if g.1.2 = .tc then {()} else ∅
/-- Barrier cells at 1, receive cells at 2, everything else at 0. -/
def lv (g : GSem nD τ sig) (_ : Unit) : ℕ := match g.2 with
  | .reg _ => 1
  | .dma n => if 7 ≤ n.val ∧ n.val < 11 then 2 else 0

theorem L_of_ne (g : GSem nD τ sig) (h : g.1.2 ≠ .tc) : L g = ∅ := if_neg h
theorem L_tc (c : Dev nD) (sm : SemLoc sig) : () ∈ L ((c : Thread nD τ), sm) := by rw [L, if_pos rfl]; exact Finset.mem_singleton_self _

theorem lv_recv (c : Dev nD) (s : Fin 4) : lv (recvCell c s) () = 2 := by
  show (if 7 ≤ 7 + s.val ∧ 7 + s.val < 11 then 2 else 0) = 2
  rw [if_pos (by have := s.isLt; omega)]

/-- Everything a tally counts sits above level `b`. -/
def Above (b : ℕ) (O : CellTallies nD τ sig Unit) : Prop := ∀ (g : GSem nD τ sig) (i : Unit), 0 < O g i → i ∈ L g ∧ b < lv g i

theorem above_tally {b : ℕ} {c : Dev nD} {sm : SemLoc sig} {n : ℕ} (h : b < lv ((c : Thread nD τ), sm) ()) : Above b (tallyAt ((c : Thread nD τ), sm) () n) := by
  intro g i hg
  rw [tallyAt_apply] at hg
  by_cases hc : g = ((c : Thread nD τ), sm) ∧ i = ()
  · obtain ⟨rfl, rfl⟩ := hc; exact ⟨L_tc c sm, h⟩
  · rw [if_neg hc] at hg; exact absurd hg (Nat.lt_irrefl 0)

theorem above_add {b : ℕ} {D₁ D₂ : CellTallies nD τ sig Unit} (h₁ : Above b D₁) (h₂ : Above b D₂) : Above b (D₁ + D₂) :=
  fun g i hg => (Pipeline.add_pos_cases hg).elim (h₁ g i) (h₂ g i)

theorem above_R {b : ℕ} (hb : b < 2) (h : ℕ) (c : Dev nD) : Above b (owedR h c) := above_tally (by rw [lv_recv]; exact hb)
theorem above_B {b : ℕ} (hb : b < 1) (h : ℕ) (c : Dev nD) : Above b (owedB h c) := above_tally hb
theorem above_O₁ {b : ℕ} (hb : b < 2) (c : Dev nD) : Above b (O₁ c) := above_add (above_add (above_R hb 1 c) (above_R hb 2 c)) (above_R hb 3 c)
theorem above_O₀ {b : ℕ} (hb : b < 1) (c : Dev nD) : Above b (O₀ c) :=
  above_add (above_add (above_add (above_O₁ (by omega) c) (above_B hb 3 c)) (above_B hb 2 c)) (above_B hb 1 c)

theorem mayWait {c : Dev nD} {sm : SemLoc sig} {O : CellTallies nD τ sig Unit} {b : ℕ} (hb : lv ((c : Thread nD τ), sm) () = b) (h : Above b O) :
    (levAts L lv : sProp 𝕄) ⊢ MayWait (c : Thread nD τ) sm () O :=
  Pipeline.mayWait_of_levAts (L_tc c sm) (by rw [hb]; exact h)

theorem lv_bar (c : Dev nD) : lv (barCell c) () = 1 := rfl
theorem lv_stage (c : Dev nD) (k : Fin 2) : lv ((c : Thread nD τ), .dma (stageS k)) () = 0 := by
  show (if 7 ≤ 11 + k.val ∧ 11 + k.val < 11 then 2 else 0) = 0
  rw [if_neg (by omega)]

/-! ## The cells' invariants, for every device at once -/

/-- The barrier cells, allocated for the executable. -/
def bars : Finset (GSem nD τ sig) := Finset.univ.image barCell
/-- The kernel's own protocol cells: three send cells and four receive cells a device. -/
def ownS : Fin 7 → SemLoc sig := ![.dma (sendS 0), .dma (sendS 1), .dma (sendS 2), .dma (recvS 0), .dma (recvS 1), .dma (recvS 2), .dma (recvS 3)]
def dorm : Finset (GSem nD τ sig) := Finset.univ.image fun x : Dev nD × Fin 7 => ((x.1 : Thread nD τ), ownS x.2)

theorem mem_bars (c : Dev nD) : barCell c ∈ bars ∪ dorm := Finset.mem_union_left _ (Finset.mem_image_of_mem barCell (Finset.mem_univ c))
theorem mem_dorm (c : Dev nD) (k : Fin 7) : ((c : Thread nD τ), ownS k) ∈ dorm :=
  Finset.mem_image_of_mem (fun x : Dev nD × Fin 7 => ((x.1 : Thread nD τ), ownS x.2)) (Finset.mem_univ (c, k))
theorem mem_send (c : Dev nD) (k : Fin 3) : sendCell c k ∈ bars ∪ dorm := by
  refine Finset.mem_union_right _ ?_
  have := mem_dorm c (k.castLE (by decide))
  revert this; fin_cases k <;> exact id
theorem mem_recv (c : Dev nD) (s : Fin 4) : recvCell c s ∈ bars ∪ dorm := by
  refine Finset.mem_union_right _ ?_
  have := mem_dorm c (s.natAdd 3)
  revert this; fin_cases s <;> exact id

/-- Every protocol cell's invariant, under the names `κ`, and every barrier cell's mark at round 0. -/
def invs (κ : GSem nD τ sig → ℕ) : sProp 𝕄 :=
  iprop(bigSep (bars ∪ dorm) (fun g => cellInv ER (Rd m) (κ g) g) ∗ bigSep bars (fun g => reached ER g 0))

instance invs_persistent (κ : GSem nD τ sig → ℕ) : BI.Persistent (invs m κ) := by unfold invs; infer_instance

theorem inv_of (κ : GSem nD τ sig → ℕ) {g : GSem nD τ sig} (h : g ∈ bars ∪ dorm) : invs m κ ⊢ cellInv ER (Rd m) (κ g) g := by
  unfold invs
  exact Laws.sep_elim_left.trans (BI.bigSep_elim h)

theorem mark_of (κ : GSem nD τ sig → ℕ) (c : Dev nD) : invs m κ ⊢ reached ER (barCell c) 0 := by
  unfold invs
  exact Laws.sep_elim_right.trans (BI.bigSep_elim (Finset.mem_image_of_mem barCell (Finset.mem_univ c)))

end Cert.AllToAll

end
-- ==== Proof.Steps.lean ====
/-
  One rule per effect of the kernel, in the words of the protocol: what the step takes, what it gives back.
-/
module

public import proofs.«01_k».proof.Proof.Protocol

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ) (c : Dev nD)

/-- The kernel has no variants. -/
abbrev 𝒱₀ : Variants := Variants.none

variable {α : Type}

/-- Device `c` runs `p`. -/
abbrev WP (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever waits it has recorded. -/
def ow (c : Dev nD) (O : CellTallies nD τ sig Unit) : sProp 𝕄 := iprop(∃ W, owes (c : Thread nD τ) O W)

/-! ## Staging a row block of `x` -/

/-- Device `c`'s column shard of `x`, whole, at share `q`. -/
abbrev xAt (q : PosShare TreeShare) : sProp 𝕄 := ((c : Thread nD τ).loc main_arg0) ↦{q} m ((c : Thread nD τ).loc main_arg0)

/-- What a staged row block credits. -/
def NS : ℕ := ((stM.slice (Rect.unit (s := S2x1024x1024) ![0, 0, 0] S1x1024x1024.size (by decide)) (fun _ => rfl)).squeeze S1024x1024 squeezes_S1x1024x1024_S1024x1024).view.dmaCredit
theorem NS_pos : 0 < NS := View.dmaCredit_pos _ (by decide)

/-- The copy of row block `d` of `x` into stage slot `k`, in flight: it lands the block and gives the share of `x` back. -/
def staged (k : Fin 2) (d : Dev nD) (q : PosShare TreeShare) : sProp 𝕄 :=
  iprop(∃ I, Transfers.Flight EC (c : Thread nD τ) (.dma (stageS k)) () NS
      iprop(st c k.val (spread 2 (rows (m ((c : Thread nD τ).loc main_arg0)) d)) ∗ (((c : Thread nD τ).loc main_arg0) ↦[I]{q} m ((c : Thread nD τ).loc main_arg0)))
    ∗ (((c : Thread nD τ).loc main_arg0) ↦[Finset.univ \ I]{q} m ((c : Thread nD τ).loc main_arg0)))

theorem st_amount {off : Fin 3 → ℕ} (inb hq) (s : DmaSem sig) :
    ((stM.slice (Rect.unit (s := S2x1024x1024) off S1x1024x1024.size inb) (fun _ => rfl)).squeeze S1024x1024 hq).view.amount (.dma s) = NS := rfl
theorem xg_amount {off : Fin 3 → ℕ} (inb hq) (s : DmaSem sig) :
    ((xgM.slice (Rect.unit (s := S4x1024x1024) off S1x1024x1024.size inb) (fun _ => rfl)).squeeze S1024x1024 hq).view.amount (.dma s) = N := rfl
theorem xs_amount {off : Fin 3 → ℕ} (inb hq) :
    ((xsM.slice (Rect.unit (s := S3x1024x1024) off S1x1024x1024.size inb) (fun _ => rfl)).squeeze S1024x1024 hq).view.dmaCredit = N := rfl

/-- What a written-back block credits. -/
def NO : ℕ := (oM.slice (Rect.unit (s := S1024x8192) ![0, 0] S1024x2048.size (by decide)) (fun _ => rfl)).view.dmaCredit
theorem NO_pos : 0 < NO := View.dmaCredit_pos _ (by decide)
theorem out_amount {off : Fin 2 → ℕ} (inb) (s : DmaSem sig) :
    (oM.slice (Rect.unit (s := S1024x8192) off S1024x2048.size inb) (fun _ => rfl)).view.amount (.dma s) = NO := rfl

section

variable {k : PUnit → Prog (TpuEff nD τ sig (Elt F) Λ₀ .tc) α}

theorem wp_stage (j : Fin 2) (d : Dev nD) (q : PosShare TreeShare) {off : Fin 3 → ℕ} (ho : off = ![j.val, 0, 0]) {inb hq} {xoff : Fin 2 → ℕ}
    (hx : xoff = ![1024 * d.val, 0]) {xinb} {s : DmaSem sig} (hs : s = stageS j) {p1 p2 p3} {Q : α → sProp 𝕄} :
    iprop(xAt m c q ∗ (∃ f, st c j.val f) ∗ semVal ((c : Thread nD τ), .dma (stageS j)) 0)
      ⊢ iprop((staged m c j d q -∗ WP c (k ⟨⟩) Q)
          -∗ WP c (.op (.enqueueDma (xM.slice (Rect.unit (s := S4096x1024) xoff S1024x1024.size xinb) (fun _ => rfl))
              (.here ((stM.slice (Rect.unit (s := S2x1024x1024) off S1x1024x1024.size inb) (fun _ => rfl)).squeeze S1024x1024 hq)) (.dma s) p1 p2 p3) k) Q) := by
  subst hs
  iintro ⟨Hx, ⟨%f, Hs⟩, Hv⟩ Hk
  ihave Hx := (pointsTo_split_subset (Finset.subset_univ (xM.slice (Rect.unit (s := S4096x1024) xoff S1024x1024.size xinb) (fun _ => rfl)).view.set)).1 $$ Hx
  icases Hx with ⟨Hx, Hr⟩
  iapply (Transfers.wp_dmaLocal EC (defs := defs₀ (F := F)) 𝒱₀ (c : Thread nD τ) none
    (src := xM.slice (Rect.unit (s := S4096x1024) xoff S1024x1024.size xinb) (fun _ => rfl))
    (dst := (stM.slice (Rect.unit (s := S2x1024x1024) off S1x1024x1024.size inb) (fun _ => rfl)).squeeze S1024x1024 hq)
    (Sd := slot (a := 2) (b := 1024) (d := 1024) j.val) (fd := f) (fs := m ((c : Thread nD τ).loc main_arg0)) (q := q)
    () NS (st_amount inb hq _) NS_pos (st_set ho inb hq).le) $$ [Hx Hs Hv]
  · isplitl [Hx]; · iexact Hx
    isplitl [Hs]; · iexact Hs
    iexact Hv
  iintro HF
  iapply Hk
  unfold staged
  iexists (xM.slice (Rect.unit (s := S4096x1024) xoff S1024x1024.size xinb) (fun _ => rfl)).view.set
  isplitl [HF]
  · have e : (((stM.slice (Rect.unit (s := S2x1024x1024) off S1x1024x1024.size inb) (fun _ => rfl)).squeeze S1024x1024 hq).view.loc (c : Thread nD τ)
        ↦[slot (a := 2) (b := 1024) (d := 1024) j.val]{fullShare}
          ((stM.slice (Rect.unit (s := S2x1024x1024) off S1x1024x1024.size inb) (fun _ => rfl)).squeeze S1024x1024 hq).view.write (Elt F) f
            ((xM.slice (Rect.unit (s := S4096x1024) xoff S1024x1024.size xinb) (fun _ => rfl)).view.read (Elt F) (m ((c : Thread nD τ).loc main_arg0))) Finset.univ : sProp 𝕄)
        = st c j.val (spread 2 (rows (m ((c : Thread nD τ).loc main_arg0)) d)) :=
      pointsTo_congr fun i hi => st_land ho inb hx xinb hq _ f i hi
    iapply (Transfers.Flight_mono EC (c : Thread nD τ) (BIClass.sep_mono (Entails.of_eq e) (BI.Entails.refl _))) $$ HF
  iexact Hr

theorem wp_stage_wait (j : Fin 2) (d : Dev nD) (q : PosShare TreeShare) {O : CellTallies nD τ sig Unit} (hO : Above 0 O)
    {off : Fin 3 → ℕ} {inb hq} {xoff : Fin 2 → ℕ} {xinb} {s : DmaSem sig} (hs : s = stageS j) {p1 p2} {Q : α → sProp 𝕄} :
    iprop(staged m c j d q ∗ ow c O ∗ levAts L lv)
      ⊢ iprop((iprop(st c j.val (spread 2 (rows (m ((c : Thread nD τ).loc main_arg0)) d)) ∗ xAt m c q ∗ semVal ((c : Thread nD τ), .dma (stageS j)) 0 ∗ ow c O) -∗ WP c (k ⟨⟩) Q)
          -∗ WP c (.op (.waitDma2 s (xM.slice (Rect.unit (s := S4096x1024) xoff S1024x1024.size xinb) (fun _ => rfl))
              ((stM.slice (Rect.unit (s := S2x1024x1024) off S1x1024x1024.size inb) (fun _ => rfl)).squeeze S1024x1024 hq) p1 p2) k) Q) := by
  subst hs
  unfold staged ow
  iintro ⟨⟨%I, HF, Hr⟩, ⟨%W, HO⟩, #Hlev⟩ Hk
  iapply (Transfers.wp_waitLocalO EC (defs := defs₀ (F := F)) 𝒱₀ (c : Thread nD τ) none
    (srcw := xM.slice (Rect.unit (s := S4096x1024) xoff S1024x1024.size xinb) (fun _ => rfl))
    (dstw := (stM.slice (Rect.unit (s := S2x1024x1024) off S1x1024x1024.size inb) (fun _ => rfl)).squeeze S1024x1024 hq)
    (hsrc := p1) (hdst := p2) () (st_amount inb hq (stageS j))) $$ [HF HO]
  · isplitl [HF]; · iexact HF
    isplitl [HO]; · iexact HO
    iapply (mayWait (lv_stage c j) hO) $$ Hlev
  iintro ⟨⟨Hs, Hx⟩, Hv, HO⟩
  iapply Hk
  isplitl [Hs]; · iexact Hs
  isplitl [Hx Hr]
  · iapply (pointsTo_split_subset (Finset.subset_univ I)).2
    isplitl [Hx]; · iexact Hx
    iexact Hr
  isplitl [Hv]; · iexact Hv
  iexists _; iexact HO

/-! ## The barrier -/

theorem wp_bar_signal (p : Dev nD) (hp : p ≠ c) {n : Dev nD} (hn : n = p) {kk : ℕ} (hk : kk = 1) (O : CellTallies nD τ sig Unit) {Q : α → sProp 𝕄} :
    iprop(invs m κ ∗ ow c (O + tallyAt (barCell p) () 1) ∗ dutyTok ER (barCell p) 0 c ∗ (∃ f, xg c p.val f) ∗ reached ER (recvCell c p) 0)
      ⊢ iprop((ow c O -∗ WP c (k ⟨⟩) Q) -∗ WP c (.op (.semSignal (n : Thread nD τ) barS kk) k) Q) := by
  subst hn hk
  unfold ow
  iintro ⟨#HI, ⟨%W, HO⟩, Ht, Hx, Hm⟩ Hk
  iapply (Rounds.wp_signal 𝒱₀ ER (Rd m) (c : Thread nD τ) none (dst := (n : Thread nD τ)) (κ := κ (barCell n)) (d := c) (r := 0)
      (by rw [duties_bar]; exact Finset.mem_erase.mpr ⟨hp.symm, Finset.mem_univ _⟩) (amount_bar m n c) () O rfl) $$ [HO Ht Hx Hm]
  · isplitr; · iapply (inv_of m κ (mem_bars n)) $$ HI
    isplitl [HO]; · iexact HO
    isplitl [Ht]; · iexact Ht
    isplitl [Hx Hm]
    · rw [payload_bar]; unfold barPay
      isplitl [Hx]; · iexact Hx
      iexact Hm
    · iapply (mark_of m κ n) $$ HI
  iintro HO
  iapply Hk
  iexists W; iexact HO

theorem wp_bar_wait {kk : ℕ} (hk : kk = 3) {O : CellTallies nD τ sig Unit} (hO : Above 1 O) {Q : α → sProp 𝕄} :
    iprop(invs m κ ∗ ow c O ∗ levAts L lv ∗ cred (tallyAt (barCell c) () 3) ∗ atPos ER (barCell c) 0 ∅ 0)
      ⊢ iprop((iprop(ow c O ∗ atPos ER (barCell c) 1 ∅ 0 ∗ barPay c (far 1 c) ∗ barPay c (far 2 c) ∗ barPay c (far 3 c)) -∗ WP c (k ⟨⟩) Q)
          -∗ WP c (.op (.semWait barS kk) k) Q) := by
  subst hk
  unfold ow
  iintro ⟨#HI, ⟨%W, HO⟩, #Hlev, Hc, Ha⟩ Hk
  iapply (Rounds.wp_wait_rest_token 𝒱₀ ER (Rd m) (c : Thread nD τ) none (κ := κ (barCell c))
      (wpE_semWait_eq 𝒱₀ (c : Thread nD τ) none Set.univ) (Set.mem_univ _) () (O := O) (W := W) (R := 0) (m := 0) (T := ∅)
      (by rw [Nat.zero_add, expect_bar])) $$ [Hc HO Ha]
  · isplitr; · iapply (inv_of m κ (mem_bars c)) $$ HI
    isplitl [Hc]; · iexact Hc
    isplitl [HO]; · iexact HO
    isplitr; · iapply (mayWait (lv_bar c) hO) $$ Hlev
    iexact Ha
  iintro ⟨HO, Ha, -, Hp⟩
  ihave Hp := (Entails.of_eq (rest_bar m c)) $$ Hp
  iapply Hk
  isplitl [HO]; · iexists _; iexact HO
  isplitl [Ha]; · iexact Ha
  iexact Hp

/-! ## The remote copies -/

theorem wp_send (p : Dev nD) (hp : c ≠ p) (j : Fin 3) {n : Dev nD} (hn : n = p) {off : Fin 3 → ℕ} (ho : off = ![c.val, 0, 0]) {inb hq}
    {off' : Fin 3 → ℕ} (ho' : off' = ![j.val, 0, 0]) {inb' hq'} {sS sR : DmaSem sig} (hS : sS = sendS j) (hR : sR = recvS c) {p0 p1 p2 p3}
    (O : CellTallies nD τ sig Unit) {Q : α → sProp 𝕄} :
    iprop(invs m κ ∗ ow c (O + tallyAt (recvCell p c) () N) ∗ xs c j.val (spread 3 (chunk m c p)) ∗ barPay c p
        ∗ dutyTok ER (sendCell c j) 0 c ∗ reached ER (sendCell c j) 0 ∗ dutyTok ER (recvCell p c) 0 c)
      ⊢ iprop((iprop(ow c O ∗ cred (tallyAt (sendCell c j) () N)) -∗ WP c (k ⟨⟩) Q)
          -∗ WP c (.op (.enqueueDma ((xsM.slice (Rect.unit (s := S3x1024x1024) off' S1x1024x1024.size inb') (fun _ => rfl)).squeeze S1024x1024 hq')
              (.remote (Dev.tc n : Thread nD τ) ((xgM.slice (Rect.unit (s := S4x1024x1024) off S1x1024x1024.size inb) (fun _ => rfl)).squeeze S1024x1024 hq) (.dma sS) p0)
              (.dma sR) p1 p2 p3) k) Q) := by
  subst hn hS hR
  unfold ow barPay
  have eS : ∀ f, (xs c j.val f : sProp 𝕄) = (((xsM.slice (Rect.unit (s := S3x1024x1024) off' S1x1024x1024.size inb') (fun _ => rfl)).squeeze S1024x1024 hq').view.loc (c : Thread nD τ)
      ↦[((xsM.slice (Rect.unit (s := S3x1024x1024) off' S1x1024x1024.size inb') (fun _ => rfl)).squeeze S1024x1024 hq').view.set]{fullShare} f) :=
    fun f => by rw [xs_set ho' inb' hq']
  have eR : ∀ f, (xg n c.val f : sProp 𝕄) = (((xgM.slice (Rect.unit (s := S4x1024x1024) off S1x1024x1024.size inb) (fun _ => rfl)).squeeze S1024x1024 hq).view.loc (n : Thread nD τ)
      ↦[((xgM.slice (Rect.unit (s := S4x1024x1024) off S1x1024x1024.size inb) (fun _ => rfl)).squeeze S1024x1024 hq).view.set]{fullShare} f) :=
    fun f => by rw [xg_set ho inb hq]
  iintro ⟨#HI, ⟨%W, HO⟩, Hs, ⟨⟨%f, Hd⟩, Hm⟩, HtS, HmS, HtR⟩ Hk
  have eL : (((xgM.slice (Rect.unit (s := S4x1024x1024) off S1x1024x1024.size inb) (fun _ => rfl)).squeeze S1024x1024 hq).view.loc (n : Thread nD τ)
      ↦[((xgM.slice (Rect.unit (s := S4x1024x1024) off S1x1024x1024.size inb) (fun _ => rfl)).squeeze S1024x1024 hq).view.set]{fullShare}
        ((xgM.slice (Rect.unit (s := S4x1024x1024) off S1x1024x1024.size inb) (fun _ => rfl)).squeeze S1024x1024 hq).view.write (Elt F) f
          (((xsM.slice (Rect.unit (s := S3x1024x1024) off' S1x1024x1024.size inb') (fun _ => rfl)).squeeze S1024x1024 hq').view.read (Elt F) (spread 3 (chunk m c n))) Finset.univ : sProp 𝕄)
      = recvPay m n c := by
    rw [← eR]
    exact pointsTo_congr fun i hi => xg_land ho inb ho' inb' hq hq' _ f i hi
  have eP : (((xsM.slice (Rect.unit (s := S3x1024x1024) off' S1x1024x1024.size inb') (fun _ => rfl)).squeeze S1024x1024 hq').view.loc (c : Thread nD τ)
      ↦[((xsM.slice (Rect.unit (s := S3x1024x1024) off' S1x1024x1024.size inb') (fun _ => rfl)).squeeze S1024x1024 hq').view.set]{fullShare} (spread 3 (chunk m c n)) : sProp 𝕄)
      ⊢ sendPay c j.val := by
    rw [← eS]
    unfold sendPay
    iintro H
    iexists _; iexact H
  ihave Hs := (Entails.of_eq (eS _)) $$ Hs
  ihave Hd := (Entails.of_eq (eR _)) $$ Hd
  iapply (Rounds.wp_send_pointsTo 𝒱₀ ER (Rd m) (c : Thread nD τ) none (c' := (n : Thread nD τ)) (κ₁ := κ (sendCell c j)) (κ₂ := κ (recvCell n c))
    (r₁ := 0) (r₂ := 0) (d₁ := c) (d₂ := c) (fd := f) (W := W)
    (by rw [duties_send]; exact Finset.mem_singleton_self _) (by rw [duties_recv m n c hp]; exact Finset.mem_singleton_self _)
    () () N (xg_amount inb hq _) (amount_send m c j c) (amount_recv m n c c) O rfl
    (by rw [payload_send]; exact eP)
    (by rw [payload_recv]; exact Entails.of_eq eL)) $$ [Hs Hd HO HtS HmS HtR Hm]
  · isplitr; · iapply (inv_of m κ (mem_send c j)) $$ HI
    isplitr; · iapply (inv_of m κ (mem_recv n c)) $$ HI
    isplitl [Hs]; · iexact Hs
    isplitl [Hd]; · iexact Hd
    isplitl [HO]; · iexact HO
    isplitl [HtS]; · iexact HtS
    isplitl [HmS]; · iexact HmS
    isplitl [HtR]; · iexact HtR
    iexact Hm
  iintro ⟨Hc, HO⟩
  iapply Hk
  isplitl [HO]; · iexists W; iexact HO
  iexact Hc

/-- The wait for device `p`'s block. -/
theorem wp_recv_wait (p : Dev nD) (hp : p ≠ c) {off : Fin 3 → ℕ} {inb hq} {off' : Fin 3 → ℕ} {inb' hq'} {s : DmaSem sig} (hs : s = recvS p) {p1 p2} {Q : α → sProp 𝕄} :
    iprop(invs m κ ∗ ow c 0 ∗ cred (tallyAt (recvCell c p) () N) ∗ atPos ER (recvCell c p) 0 ∅ 0)
      ⊢ iprop((iprop(ow c 0 ∗ atPos ER (recvCell c p) 1 ∅ 0 ∗ recvPay m c p) -∗ WP c (k ⟨⟩) Q)
          -∗ WP c (.op (.waitDma2 s ((xsM.slice (Rect.unit (s := S3x1024x1024) off' S1x1024x1024.size inb') (fun _ => rfl)).squeeze S1024x1024 hq')
              ((xgM.slice (Rect.unit (s := S4x1024x1024) off S1x1024x1024.size inb) (fun _ => rfl)).squeeze S1024x1024 hq) p1 p2) k) Q) := by
  subst hs
  unfold ow
  iintro ⟨#HI, ⟨%W, HO⟩, Hc, Ha⟩ Hk
  iapply (Rounds.wp_wait_rest_token 𝒱₀ ER (Rd m) (c : Thread nD τ) none (κ := κ (recvCell c p))
      (wpE_waitDma2_eq 𝒱₀ (c : Thread nD τ) none Set.univ) (Set.mem_univ _) () (O := 0) (W := W) (R := 0) (m := 0) (T := ∅)
      (by rw [Nat.zero_add, expect_recv m c p hp]; exact xg_amount inb hq (recvS p))) $$ [Hc HO Ha]
  · isplitr; · iapply (inv_of m κ (mem_recv c p)) $$ HI
    isplitl [Hc]; · iexact Hc
    isplitl [HO]; · iexact HO
    isplitr; · rw [MayWait_zero]; iempintro
    iexact Ha
  iintro ⟨HO, Ha, -, Hp⟩
  ihave Hp := (Entails.of_eq (rest_recv m c p hp)) $$ Hp
  iapply Hk
  isplitl [HO]; · iexists _; iexact HO
  isplitl [Ha]; · iexact Ha
  iexact Hp

/-- The wait for a send slot to come back. -/
theorem wp_send_wait (j : Fin 3) {off : Fin 3 → ℕ} {inb hq} {off' : Fin 3 → ℕ} {inb' hq'} {s : DmaSem sig} (hs : s = sendS j) {p1 p2} {Q : α → sProp 𝕄} :
    iprop(invs m κ ∗ ow c 0 ∗ cred (tallyAt (sendCell c j) () N) ∗ atPos ER (sendCell c j) 0 ∅ 0)
      ⊢ iprop((iprop(ow c 0 ∗ atPos ER (sendCell c j) 1 ∅ 0 ∗ sendPay c j.val) -∗ WP c (k ⟨⟩) Q)
          -∗ WP c (.op (.waitDma2 s ((xgM.slice (Rect.unit (s := S4x1024x1024) off S1x1024x1024.size inb) (fun _ => rfl)).squeeze S1024x1024 hq)
              ((xsM.slice (Rect.unit (s := S3x1024x1024) off' S1x1024x1024.size inb') (fun _ => rfl)).squeeze S1024x1024 hq') p1 p2) k) Q) := by
  subst hs
  unfold ow
  iintro ⟨#HI, ⟨%W, HO⟩, Hc, Ha⟩ Hk
  iapply (Rounds.wp_wait_rest_token 𝒱₀ ER (Rd m) (c : Thread nD τ) none (κ := κ (sendCell c j))
      (wpE_waitDma2_eq 𝒱₀ (c : Thread nD τ) none Set.univ) (Set.mem_univ _) () (O := 0) (W := W) (R := 0) (m := 0) (T := ∅)
      (by rw [Nat.zero_add, expect_send m c j]; exact xs_amount inb' hq')) $$ [Hc HO Ha]
  · isplitr; · iapply (inv_of m κ (mem_send c j)) $$ HI
    isplitl [Hc]; · iexact Hc
    isplitl [HO]; · iexact HO
    isplitr; · rw [MayWait_zero]; iempintro
    iexact Ha
  iintro ⟨HO, Ha, -, Hp⟩
  ihave Hp := (Entails.of_eq (rest_send m c j)) $$ Hp
  iapply Hk
  isplitl [HO]; · iexists _; iexact HO
  isplitl [Ha]; · iexact Ha
  iexact Hp

/-! ## The write-back -/

/-- Output slot `i`'s block `w` on its way to column block `j` of the result. -/
def wrote (i : Fin 2) (j : ℕ) (w : S1x1024x2048.Idx → Elt F .bf16) : sProp 𝕄 :=
  Transfers.Flight EC (c : Thread nD τ) (.dma (outS i)) () NO iprop(out c j (tile 8192 (flat w)) ∗ ob c i.val (spread 2 w))

theorem wp_write (i : Fin 2) (j : ℕ) (w : S1x1024x2048.Idx → Elt F .bf16) {off : Fin 2 → ℕ} (ho : off = ![0, 2048 * j]) {inb}
    {off' : Fin 3 → ℕ} (ho' : off' = ![i.val, 0, 0]) {inb' hq'} {s : DmaSem sig} (hs : s = outS i) {p1 p2 p3} {Q : α → sProp 𝕄} :
    iprop((∃ f, out c j f) ∗ ob c i.val (spread 2 w) ∗ semVal ((c : Thread nD τ), .dma (outS i)) 0)
      ⊢ iprop((wrote c i j w -∗ WP c (k ⟨⟩) Q)
          -∗ WP c (.op (.enqueueDma ((obM.slice (Rect.unit (s := S2x1024x2048) off' S1x1024x2048.size inb') (fun _ => rfl)).squeeze S1024x2048 hq')
              (.here (oM.slice (Rect.unit (s := S1024x8192) off S1024x2048.size inb) (fun _ => rfl))) (.dma s) p1 p2 p3) k) Q) := by
  subst hs
  have eS : ∀ f, (ob c i.val f : sProp 𝕄) = (((obM.slice (Rect.unit (s := S2x1024x2048) off' S1x1024x2048.size inb') (fun _ => rfl)).squeeze S1024x2048 hq').view.loc (c : Thread nD τ)
      ↦[((obM.slice (Rect.unit (s := S2x1024x2048) off' S1x1024x2048.size inb') (fun _ => rfl)).squeeze S1024x2048 hq').view.set]{fullShare} f) :=
    fun f => by rw [ob_set ho' inb' hq']
  iintro ⟨⟨%f, Ho⟩, Hs, Hv⟩ Hk
  ihave Hs := (Entails.of_eq (eS _)) $$ Hs
  iapply (Transfers.wp_dmaLocal EC (defs := defs₀ (F := F)) 𝒱₀ (c : Thread nD τ) none
    (src := (obM.slice (Rect.unit (s := S2x1024x2048) off' S1x1024x2048.size inb') (fun _ => rfl)).squeeze S1024x2048 hq')
    (dst := oM.slice (Rect.unit (s := S1024x8192) off S1024x2048.size inb) (fun _ => rfl))
    (Sd := cols (a := 1024) (b := 8192) j) (fd := f) (fs := spread 2 w) (q := fullShare)
    () NO (out_amount inb _) NO_pos (out_set ho inb).le) $$ [Ho Hs Hv]
  · isplitl [Hs]; · iexact Hs
    isplitl [Ho]; · iexact Ho
    iexact Hv
  iintro HF
  iapply Hk
  unfold wrote
  have e : ((oM.slice (Rect.unit (s := S1024x8192) off S1024x2048.size inb) (fun _ => rfl)).view.loc (c : Thread nD τ)
      ↦[cols (a := 1024) (b := 8192) j]{fullShare} (oM.slice (Rect.unit (s := S1024x8192) off S1024x2048.size inb) (fun _ => rfl)).view.write (Elt F) f
        (((obM.slice (Rect.unit (s := S2x1024x2048) off' S1x1024x2048.size inb') (fun _ => rfl)).squeeze S1024x2048 hq').view.read (Elt F) (spread 2 w)) Finset.univ : sProp 𝕄)
      = out c j (tile 8192 (flat w)) :=
    pointsTo_congr fun i hi => out_land ho inb ho' inb' hq' _ f i hi
  iapply (Transfers.Flight_mono EC (c : Thread nD τ) (BIClass.sep_mono (Entails.of_eq e) (Entails.of_eq (eS _).symm))) $$ HF

theorem wp_write_wait (i : Fin 2) (j : ℕ) (w : S1x1024x2048.Idx → Elt F .bf16) {off : Fin 2 → ℕ} {inb} {off' : Fin 3 → ℕ} {inb' hq'}
    {s : DmaSem sig} (hs : s = outS i) {p1 p2} {Q : α → sProp 𝕄} :
    iprop(wrote c i j w ∗ ow c 0)
      ⊢ iprop((iprop(out c j (tile 8192 (flat w)) ∗ (∃ f, ob c i.val f) ∗ semVal ((c : Thread nD τ), .dma (outS i)) 0 ∗ ow c 0) -∗ WP c (k ⟨⟩) Q)
          -∗ WP c (.op (.waitDma2 s ((obM.slice (Rect.unit (s := S2x1024x2048) off' S1x1024x2048.size inb') (fun _ => rfl)).squeeze S1024x2048 hq')
              (oM.slice (Rect.unit (s := S1024x8192) off S1024x2048.size inb) (fun _ => rfl)) p1 p2) k) Q) := by
  subst hs
  unfold wrote ow
  iintro ⟨HF, ⟨%W, HO⟩⟩ Hk
  iapply (Transfers.wp_waitLocal EC (defs := defs₀ (F := F)) 𝒱₀ (c : Thread nD τ) none
    (srcw := (obM.slice (Rect.unit (s := S2x1024x2048) off' S1x1024x2048.size inb') (fun _ => rfl)).squeeze S1024x2048 hq')
    (dstw := oM.slice (Rect.unit (s := S1024x8192) off S1024x2048.size inb) (fun _ => rfl))
    (hsrc := p1) (hdst := p2) () (out_amount inb (outS i))) $$ [HF HO]
  · isplitl [HF]; · iexact HF
    iexact HO
  iintro ⟨⟨Ho, Hs⟩, Hv, HO⟩
  iapply Hk
  isplitl [Ho]; · iexact Ho
  isplitl [Hs]; · iexists _; iexact Hs
  isplitl [Hv]; · iexact Hv
  iexists _; iexact HO

end

end Cert.AllToAll

end
-- ==== Proof.Access.lean ====
/-
  The kernel's loads and stores, each over the piece of the buffer it touches: a slot, a column block, a window's stage.
-/
module

public import proofs.«01_k».proof.Proof.Steps

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD) {α : Type}

theorem wp_st_load {off : Fin 3 → ℕ} {j : ℕ} (ho : off = ![j, 0, 0]) {inb hl} (w : S1x1024x1024.Idx → Elt F .f32)
    {k : (S1x1024x1024.Idx → Elt F .f32) → Prog (TpuEff nD τ sig (Elt F) Λ₀ .tc) α} {Q : α → sProp 𝕄} :
    (st c j (spread 2 w)) ⊢ iprop((st c j (spread 2 w) -∗ WP c (k w) Q) -∗ WP c (.op (.load stM (Rect.unit (s := S2x1024x1024) off S1x1024x1024.size inb).toLoadRect hl) k) Q) := by
  have h : (st c j (spread 2 w)) ⊢ iprop((st c j (spread 2 w) -∗ WP c (k ((stM.access (Rect.unit (s := S2x1024x1024) off S1x1024x1024.size inb)).read (Elt F) (spread 2 w))) Q) -∗ WP c (.op (.load stM (Rect.unit (s := S2x1024x1024) off S1x1024x1024.size inb).toLoadRect hl) k) Q) :=
    wp_load_rect (defs := defs₀ (F := F)) 𝒱₀ (c : Thread nD τ) none Set.univ (Q := Q) (m := stM) (r := (Rect.unit (s := S2x1024x1024) off S1x1024x1024.size inb)) (hl := hl) (k := k)
    (q := fullShare) (f := spread 2 w) (st_aset ho inb).le
  rw [st_load ho inb w] at h
  exact h

theorem wp_xs_any {off : Fin 3 → ℕ} {j : ℕ} (ho : off = ![j, 0, 0]) {inb hl}
    {k : (S1x1024x1024.Idx → Elt F .fp8e4m3) → Prog (TpuEff nD τ sig (Elt F) Λ₀ .tc) α} {Q : α → sProp 𝕄} :
    iprop(∃ f, xs c j f) ⊢ iprop((∀ v, (∃ f, xs c j f) -∗ WP c (k v) Q) -∗ WP c (.op (.load xsM (Rect.unit (s := S3x1024x1024) off S1x1024x1024.size inb).toLoadRect hl) k) Q) := by
  iintro ⟨%f, H⟩ Hk
  iapply (wp_load_rect (defs := defs₀ (F := F)) 𝒱₀ (c : Thread nD τ) none Set.univ (Q := Q) (m := xsM) (r := (Rect.unit (s := S3x1024x1024) off S1x1024x1024.size inb)) (hl := hl) (k := k)
    (q := fullShare) (f := f) (xs_aset ho inb).le) $$ [H]
  · iexact H
  iintro H
  iapply Hk
  iexists f; iexact H

theorem wp_xs_store {off : Fin 3 → ℕ} {j : ℕ} (ho : off = ![j, 0, 0]) {inb} (w : S1x1024x1024.Idx → Elt F .fp8e4m3) {hx hm}
    {k : PUnit → Prog (TpuEff nD τ sig (Elt F) Λ₀ .tc) α} {Q : α → sProp 𝕄} :
    iprop(∃ f, xs c j f) ⊢ iprop((xs c j (spread 3 w) -∗ WP c (k ⟨⟩) Q) -∗ WP c (.op (.store xsM (Rect.unit (s := S3x1024x1024) off S1x1024x1024.size inb) w Finset.univ hx hm) k) Q) := by
  iintro ⟨%f, H⟩ Hk
  have e : ((xsM.access (Rect.unit (s := S3x1024x1024) off S1x1024x1024.size inb)).loc (c : Thread nD τ) ↦[slot (a := 3) (b := 1024) (d := 1024) j]{fullShare}
      (xsM.access (Rect.unit (s := S3x1024x1024) off S1x1024x1024.size inb)).write (Elt F) f w Finset.univ : sProp 𝕄) = xs c j (spread 3 w) :=
    pointsTo_congr fun i hi => xs_store ho inb f w i hi
  iapply (wp_store (defs := defs₀ (F := F)) 𝒱₀ (c : Thread nD τ) none Set.univ (Q := Q) (m := xsM) (r := (Rect.unit (s := S3x1024x1024) off S1x1024x1024.size inb)) (hx := hx) (hm := hm) (k := k)
    (f := f) (xs_aset ho inb).le) $$ [H]
  · iexact H
  iintro H
  iapply Hk
  ihave H := (Entails.of_eq e) $$ H
  iexact H

theorem wp_xg_load {off : Fin 3 → ℕ} {j : ℕ} (ho : off = ![j, 0, 0]) {inb hl} (w : S1x1024x1024.Idx → Elt F .fp8e4m3)
    {k : (S1x1024x1024.Idx → Elt F .fp8e4m3) → Prog (TpuEff nD τ sig (Elt F) Λ₀ .tc) α} {Q : α → sProp 𝕄} :
    (xg c j (spread 4 w)) ⊢ iprop((xg c j (spread 4 w) -∗ WP c (k w) Q) -∗ WP c (.op (.load xgM (Rect.unit (s := S4x1024x1024) off S1x1024x1024.size inb).toLoadRect hl) k) Q) := by
  have h : (xg c j (spread 4 w)) ⊢ iprop((xg c j (spread 4 w) -∗ WP c (k ((xgM.access (Rect.unit (s := S4x1024x1024) off S1x1024x1024.size inb)).read (Elt F) (spread 4 w))) Q) -∗ WP c (.op (.load xgM (Rect.unit (s := S4x1024x1024) off S1x1024x1024.size inb).toLoadRect hl) k) Q) :=
    wp_load_rect (defs := defs₀ (F := F)) 𝒱₀ (c : Thread nD τ) none Set.univ (Q := Q) (m := xgM) (r := (Rect.unit (s := S4x1024x1024) off S1x1024x1024.size inb)) (hl := hl) (k := k)
    (q := fullShare) (f := spread 4 w) (xg_aset ho inb).le
  rw [xg_load ho inb w] at h
  exact h

theorem wp_xg_any {off : Fin 3 → ℕ} {j : ℕ} (ho : off = ![j, 0, 0]) {inb hl}
    {k : (S1x1024x1024.Idx → Elt F .fp8e4m3) → Prog (TpuEff nD τ sig (Elt F) Λ₀ .tc) α} {Q : α → sProp 𝕄} :
    iprop(∃ f, xg c j f) ⊢ iprop((∀ v, (∃ f, xg c j f) -∗ WP c (k v) Q) -∗ WP c (.op (.load xgM (Rect.unit (s := S4x1024x1024) off S1x1024x1024.size inb).toLoadRect hl) k) Q) := by
  iintro ⟨%f, H⟩ Hk
  iapply (wp_load_rect (defs := defs₀ (F := F)) 𝒱₀ (c : Thread nD τ) none Set.univ (Q := Q) (m := xgM) (r := (Rect.unit (s := S4x1024x1024) off S1x1024x1024.size inb)) (hl := hl) (k := k)
    (q := fullShare) (f := f) (xg_aset ho inb).le) $$ [H]
  · iexact H
  iintro H
  iapply Hk
  iexists f; iexact H

theorem wp_xg_store {off : Fin 3 → ℕ} {j : ℕ} (ho : off = ![j, 0, 0]) {inb} (w : S1x1024x1024.Idx → Elt F .fp8e4m3) {hx hm}
    {k : PUnit → Prog (TpuEff nD τ sig (Elt F) Λ₀ .tc) α} {Q : α → sProp 𝕄} :
    iprop(∃ f, xg c j f) ⊢ iprop((xg c j (spread 4 w) -∗ WP c (k ⟨⟩) Q) -∗ WP c (.op (.store xgM (Rect.unit (s := S4x1024x1024) off S1x1024x1024.size inb) w Finset.univ hx hm) k) Q) := by
  iintro ⟨%f, H⟩ Hk
  have e : ((xgM.access (Rect.unit (s := S4x1024x1024) off S1x1024x1024.size inb)).loc (c : Thread nD τ) ↦[slot (a := 4) (b := 1024) (d := 1024) j]{fullShare}
      (xgM.access (Rect.unit (s := S4x1024x1024) off S1x1024x1024.size inb)).write (Elt F) f w Finset.univ : sProp 𝕄) = xg c j (spread 4 w) :=
    pointsTo_congr fun i hi => xg_store ho inb f w i hi
  iapply (wp_store (defs := defs₀ (F := F)) 𝒱₀ (c : Thread nD τ) none Set.univ (Q := Q) (m := xgM) (r := (Rect.unit (s := S4x1024x1024) off S1x1024x1024.size inb)) (hx := hx) (hm := hm) (k := k)
    (f := f) (xg_aset ho inb).le) $$ [H]
  · iexact H
  iintro H
  iapply Hk
  ihave H := (Entails.of_eq e) $$ H
  iexact H

theorem wp_ob_any {off : Fin 3 → ℕ} {j : ℕ} (ho : off = ![j, 0, 0]) {inb hl}
    {k : (S1x1024x2048.Idx → Elt F .bf16) → Prog (TpuEff nD τ sig (Elt F) Λ₀ .tc) α} {Q : α → sProp 𝕄} :
    iprop(∃ f, ob c j f) ⊢ iprop((∀ v, (∃ f, ob c j f) -∗ WP c (k v) Q) -∗ WP c (.op (.load obM (Rect.unit (s := S2x1024x2048) off S1x1024x2048.size inb).toLoadRect hl) k) Q) := by
  iintro ⟨%f, H⟩ Hk
  iapply (wp_load_rect (defs := defs₀ (F := F)) 𝒱₀ (c : Thread nD τ) none Set.univ (Q := Q) (m := obM) (r := (Rect.unit (s := S2x1024x2048) off S1x1024x2048.size inb)) (hl := hl) (k := k)
    (q := fullShare) (f := f) (ob_aset ho inb).le) $$ [H]
  · iexact H
  iintro H
  iapply Hk
  iexists f; iexact H

theorem wp_ob_store {off : Fin 3 → ℕ} {j : ℕ} (ho : off = ![j, 0, 0]) {inb} (w : S1x1024x2048.Idx → Elt F .bf16) {hx hm}
    {k : PUnit → Prog (TpuEff nD τ sig (Elt F) Λ₀ .tc) α} {Q : α → sProp 𝕄} :
    iprop(∃ f, ob c j f) ⊢ iprop((ob c j (spread 2 w) -∗ WP c (k ⟨⟩) Q) -∗ WP c (.op (.store obM (Rect.unit (s := S2x1024x2048) off S1x1024x2048.size inb) w Finset.univ hx hm) k) Q) := by
  iintro ⟨%f, H⟩ Hk
  have e : ((obM.access (Rect.unit (s := S2x1024x2048) off S1x1024x2048.size inb)).loc (c : Thread nD τ) ↦[slot (a := 2) (b := 1024) (d := 2048) j]{fullShare}
      (obM.access (Rect.unit (s := S2x1024x2048) off S1x1024x2048.size inb)).write (Elt F) f w Finset.univ : sProp 𝕄) = ob c j (spread 2 w) :=
    pointsTo_congr fun i hi => ob_store ho inb f w i hi
  iapply (wp_store (defs := defs₀ (F := F)) 𝒱₀ (c : Thread nD τ) none Set.univ (Q := Q) (m := obM) (r := (Rect.unit (s := S2x1024x2048) off S1x1024x2048.size inb)) (hx := hx) (hm := hm) (k := k)
    (f := f) (ob_aset ho inb).le) $$ [H]
  · iexact H
  iintro H
  iapply Hk
  ihave H := (Entails.of_eq e) $$ H
  iexact H

theorem wp_acc_load {off : Fin 2 → ℕ} {j : ℕ} (ho : off = ![0, 2048 * j]) {inb hl} (w : S1024x2048.Idx → Elt F .bf16)
    {k : (S1024x2048.Idx → Elt F .bf16) → Prog (TpuEff nD τ sig (Elt F) Λ₀ .tc) α} {Q : α → sProp 𝕄} :
    (acc c j (tile 8192 w)) ⊢ iprop((acc c j (tile 8192 w) -∗ WP c (k w) Q) -∗ WP c (.op (.load accM (Rect.unit (s := S1024x8192) off S1024x2048.size inb).toLoadRect hl) k) Q) := by
  have h : (acc c j (tile 8192 w)) ⊢ iprop((acc c j (tile 8192 w) -∗ WP c (k ((accM.access (Rect.unit (s := S1024x8192) off S1024x2048.size inb)).read (Elt F) (tile 8192 w))) Q) -∗ WP c (.op (.load accM (Rect.unit (s := S1024x8192) off S1024x2048.size inb).toLoadRect hl) k) Q) :=
    wp_load_rect (defs := defs₀ (F := F)) 𝒱₀ (c : Thread nD τ) none Set.univ (Q := Q) (m := accM) (r := (Rect.unit (s := S1024x8192) off S1024x2048.size inb)) (hl := hl) (k := k)
    (q := fullShare) (f := tile 8192 w) (acc_set ho inb).le
  rw [acc_load ho inb w] at h
  exact h

theorem wp_acc_any {off : Fin 2 → ℕ} {j : ℕ} (ho : off = ![0, 2048 * j]) {inb hl}
    {k : (S1024x2048.Idx → Elt F .bf16) → Prog (TpuEff nD τ sig (Elt F) Λ₀ .tc) α} {Q : α → sProp 𝕄} :
    iprop(∃ f, acc c j f) ⊢ iprop((∀ v, (∃ f, acc c j f) -∗ WP c (k v) Q) -∗ WP c (.op (.load accM (Rect.unit (s := S1024x8192) off S1024x2048.size inb).toLoadRect hl) k) Q) := by
  iintro ⟨%f, H⟩ Hk
  iapply (wp_load_rect (defs := defs₀ (F := F)) 𝒱₀ (c : Thread nD τ) none Set.univ (Q := Q) (m := accM) (r := (Rect.unit (s := S1024x8192) off S1024x2048.size inb)) (hl := hl) (k := k)
    (q := fullShare) (f := f) (acc_set ho inb).le) $$ [H]
  · iexact H
  iintro H
  iapply Hk
  iexists f; iexact H

theorem wp_acc_store {off : Fin 2 → ℕ} {j : ℕ} (ho : off = ![0, 2048 * j]) {inb} (w : S1024x2048.Idx → Elt F .bf16) {hx hm}
    {k : PUnit → Prog (TpuEff nD τ sig (Elt F) Λ₀ .tc) α} {Q : α → sProp 𝕄} :
    iprop(∃ f, acc c j f) ⊢ iprop((acc c j (tile 8192 w) -∗ WP c (k ⟨⟩) Q) -∗ WP c (.op (.store accM (Rect.unit (s := S1024x8192) off S1024x2048.size inb) w Finset.univ hx hm) k) Q) := by
  iintro ⟨%f, H⟩ Hk
  have e : ((accM.access (Rect.unit (s := S1024x8192) off S1024x2048.size inb)).loc (c : Thread nD τ) ↦[cols (a := 1024) (b := 8192) j]{fullShare}
      (accM.access (Rect.unit (s := S1024x8192) off S1024x2048.size inb)).write (Elt F) f w Finset.univ : sProp 𝕄) = acc c j (tile 8192 w) :=
    pointsTo_congr fun i hi => acc_store ho inb f w i hi
  iapply (wp_store (defs := defs₀ (F := F)) 𝒱₀ (c : Thread nD τ) none Set.univ (Q := Q) (m := accM) (r := (Rect.unit (s := S1024x8192) off S1024x2048.size inb)) (hx := hx) (hm := hm) (k := k)
    (f := f) (acc_set ho inb).le) $$ [H]
  · iexact H
  iintro H
  iapply Hk
  ihave H := (Entails.of_eq e) $$ H
  iexact H

/-! ### The windows' stages and the table -/

/-- A load through a whole rectangle of a memref held at contents `X` reads `X`. -/
theorem owns_load {sp : CoreSpace} {s : Shape} {e : EltTy} (M : Memref sig .tc sp s e) (r : Rect s) (q : PosShare TreeShare) (X : s.Idx → Elt F e) {hl}
    {k : (r.shape.Idx → Elt F e) → Prog (TpuEff nD τ sig (Elt F) Λ₀ .tc) α} {Q : α → sProp 𝕄} :
    (owns (c : Thread nD τ) M q X) ⊢ iprop((owns (c : Thread nD τ) M q X -∗ WP c (k (fun x => X (r.emb x))) Q) -∗ WP c (.op (.load M r.toLoadRect hl) k) Q) := by
  unfold owns
  iintro ⟨%f, %hf, H⟩ Hk
  have hS : (M.access r).set ⊆ M.view.set := View.set_slice_subset _ _
  have e : (M.access r).read (Elt F) f = fun x => X (r.emb x) := by subst hf; rfl
  have h : ((M.access r).loc (c : Thread nD τ) ↦[M.view.set]{q} f)
      ⊢ iprop((((M.access r).loc (c : Thread nD τ) ↦[M.view.set]{q} f) -∗ WP c (k ((M.access r).read (Elt F) f)) Q) -∗ WP c (.op (.load M r.toLoadRect hl) k) Q) :=
    wp_load_rect (defs := defs₀ (F := F)) 𝒱₀ (c : Thread nD τ) none Set.univ (Q := Q) (m := M) (r := r) (hl := hl) (k := k) (q := q) (f := f) hS
  rw [e] at h
  iapply h $$ [H]
  · iexact H
  iintro H
  iapply Hk
  iexists f
  isplitr; · ipureintro; exact hf
  iexact H

end Cert.AllToAll

end
-- ==== Proof.State.lean ====
/-
  What device `c` holds between two grid points, with every buffer's contents named.

  After `n` points (`n = 4 q + j` before point `(q, j)`): the pass-`q` block has arrived once `n > 4 q`; column `j` of
  the accumulator holds the sum over the passes it has been through; column `j` of the result is under way once
  `n > 12 + j` and written once `n > 14 + j`.
-/
module

public import proofs.«01_k».proof.Proof.Access

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Values -/

/-- The block of the weights pass `q` multiplies at column `j`: rows `1024 (src c q)` on, columns `2048 j` on. -/
def wblk (q j : Fin 4) : S1024x2048.Idx → Elt F .fp8e4m3 := fun x =>
  m ((c : Thread nD τ).loc main_arg1) (ix2 (a := 4096) (b := 8192)
    ⟨1024 * (src c q).val + (x 0).val, by have := (src c q).isLt; have h : (x 0).val < 1024 := (x 0).isLt; have e : nD = 4 := rfl; omega⟩
    ⟨2048 * j.val + (x 1).val, by have := j.isLt; have h : (x 1).val < 2048 := (x 1).isLt; omega⟩)

/-- The one index of a one-element array. -/
def i0 : S1.Idx := fun k => ⟨0, by fin_cases k; decide⟩

/-- The scale: the product of the two scalars. -/
def scale : F .f32 := k0_pay7 (m ((c : Thread nD τ).loc main_arg2) i0) (m ((c : Thread nD τ).loc main_arg3) i0)

/-- Pass `q`'s product at column `j`. -/
def prod (q j : Fin 4) : FVec F S1024x2048 .f32 := k0_pay8 (chunk m (src c q) c) (wblk m c q j)

/-- Column `j` of the accumulator after passes `0 … p`. -/
def accVal (j : Fin 4) (p : ℕ) : FVec F S1024x2048 .bf16 :=
  if p = 0 then k0_pay9 (chunk m (src c 0) c) (wblk m c 0 j)
  else if p = 1 then k0_pay1 (prod m c 1 j) (k0_pay9 (chunk m (src c 0) c) (wblk m c 0 j))
  else k0_pay1 (prod m c 2 j) (k0_pay1 (prod m c 1 j) (k0_pay9 (chunk m (src c 0) c) (wblk m c 0 j)))

/-- Column `j` of the result, as the block written to the output slot. -/
def outBlk (j : Fin 4) : FVec F S1x1024x2048 .bf16 := k0_pay2 (scale m c) (prod m c 3 j) (accVal m c j 2)

/-! ## The pieces of the state -/

/-- The table holds the device's index. -/
def tbl : sProp 𝕄 := ((c : Thread nD τ).loc main_v5) ↦{fullShare} (fun _ => (me c : Elt F .i32))

/-- `x`, the stage and its counters, the spent barrier position. -/
def misc : sProp 𝕄 :=
  iprop(tbl c ∗ xAt m c fullShare ∗ (∃ f, st c 0 f) ∗ (∃ f, st c 1 f) ∗ semVal ((c : Thread nD τ), .dma (stageS 0)) 0 ∗ semVal ((c : Thread nD τ), .dma (stageS 1)) 0
    ∗ atPos ER (barCell c) 1 ∅ 0)

/-- Send slot `k` out on the wire. -/
def sent (k : Fin 3) : sProp 𝕄 := iprop(atPos ER (sendCell c k) 0 ∅ 0 ∗ cred (tallyAt (sendCell c k) () N))

/-- Pass `q`'s block in hand (pass 0's is the device's own and never crosses a semaphore). -/
def got (q : Fin 4) : sProp 𝕄 := xg c (src c q).val (spread 4 (chunk m (src c q) c))
def rcvd (q : Fin 4) : sProp 𝕄 := iprop(atPos ER (recvCell c (src c q)) (if q.val = 0 then 0 else 1) ∅ 0 ∗ got m c q)
/-- Pass `q`'s block awaited. -/
def awaited (q : Fin 4) : sProp 𝕄 := iprop(cred (tallyAt (recvCell c (src c q)) () N) ∗ atPos ER (recvCell c (src c q)) 0 ∅ 0)
/-- Pass `q`'s block once `r` blocks are in hand. -/
def rcv (r : ℕ) (q : Fin 4) : sProp 𝕄 := if q.val < r then rcvd m c q else awaited c q
/-- Pass `q`'s receive cell before the exchange. -/
def rcv₀ (q : Fin 4) : sProp 𝕄 := if q.val = 0 then atPos ER (recvCell c (src c q)) 0 ∅ 0 else awaited c q

/-- Column `j` of the accumulator after `n` points. -/
def accs (n : ℕ) (j : Fin 4) : sProp 𝕄 :=
  if n ≤ j.val then iprop(∃ f, acc c j.val f) else acc c j.val (tile 8192 (accVal m c j (min ((n - 1 - j.val) / 4) 2)))

/-- The output slot of column `j`. -/
def par (j : Fin 4) : Fin 2 := ⟨j.val % 2, Nat.mod_lt _ (by decide)⟩

/-- Column `j` of the result, not yet written, -/
def raw (j : Fin 4) : sProp 𝕄 := iprop(∃ f, out c j.val f)
/-- and written. -/
def done (j : Fin 4) : sProp 𝕄 := out c j.val (tile 8192 (flat (outBlk m c j)))
/-- Column `j` of the result after `n` points. -/
def wr (n : ℕ) (j : Fin 4) : sProp 𝕄 :=
  if n ≤ 12 + j.val then raw c j else if n ≤ 14 + j.val then wrote c (par j) j.val (outBlk m c j) else done m c j

/-- An output slot with nothing under way, -/
def free (i : Fin 2) : sProp 𝕄 := iprop((∃ f, ob c i.val f) ∗ semVal ((c : Thread nD τ), .dma (outS i)) 0)
/-- after `n` points. -/
def idle (n : ℕ) (i : Fin 2) : sProp 𝕄 := if n ≤ 12 + i.val then free c i else iprop(emp)

/-- What changes hands before and after: `r` blocks in hand, the accumulator after `a` points, the result after `b`. -/
def work (r a b : ℕ) : sProp 𝕄 :=
  iprop(misc m c ∗ (sent c 0 ∗ sent c 1 ∗ sent c 2)
    ∗ bigSep Finset.univ (rcv m c r) ∗ bigSep Finset.univ (accs m c a) ∗ bigSep Finset.univ (wr m c b) ∗ bigSep Finset.univ (idle (F := F) c b))

/-- Before the first point: everything the device was given. -/
def start : sProp 𝕄 :=
  iprop(tbl c ∗ xAt m c fullShare ∗ bigSep Finset.univ (raw (F := F) c) ∗ bigSep Finset.univ (free (F := F) c)
    ∗ ((∃ f, st c 0 f) ∗ (∃ f, st c 1 f) ∗ semVal ((c : Thread nD τ), .dma (stageS 0)) 0 ∗ semVal ((c : Thread nD τ), .dma (stageS 1)) 0)
    ∗ (bigSep Finset.univ fun j : Fin 4 => iprop(∃ f, acc c j.val f))
    ∗ ((∃ f, xs c 0 f) ∗ (∃ f, xs c 1 f) ∗ (∃ f, xs c 2 f))
    ∗ ((∃ f, xg c (src c 0).val f) ∗ (∃ f, xg c (far 1 c).val f) ∗ (∃ f, xg c (far 2 c).val f) ∗ (∃ f, xg c (far 3 c).val f))
    ∗ (atPos ER (barCell c) 0 ∅ 0 ∗ cred (tallyAt (barCell c) () 3))
    ∗ bigSep Finset.univ (rcv₀ (F := F) c)
    ∗ (reached ER (recvCell c (far 1 c)) 0 ∗ reached ER (recvCell c (far 2 c)) 0 ∗ reached ER (recvCell c (far 3 c)) 0)
    ∗ (atPos ER (sendCell c 0) 0 ∅ 0 ∗ atPos ER (sendCell c 1) 0 ∅ 0 ∗ atPos ER (sendCell c 2) 0 ∅ 0)
    ∗ (reached ER (sendCell c 0) 0 ∗ reached ER (sendCell c 1) 0 ∗ reached ER (sendCell c 2) 0)
    ∗ (dutyTok ER (sendCell c 0) 0 c ∗ dutyTok ER (sendCell c 1) 0 c ∗ dutyTok ER (sendCell c 2) 0 c)
    ∗ (dutyTok ER (barCell (far 1 c)) 0 c ∗ dutyTok ER (barCell (far 2 c)) 0 c ∗ dutyTok ER (barCell (far 3 c)) 0 c)
    ∗ (dutyTok ER (recvCell (far 1 c) c) 0 c ∗ dutyTok ER (recvCell (far 2 c) c) 0 c ∗ dutyTok ER (recvCell (far 3 c) c) 0 c))

/-- After the last point, the protocol's cells closed: every counter at zero, the result written, the scratch in pieces. -/
def final : sProp 𝕄 :=
  iprop(tbl c ∗ xAt m c fullShare ∗ bigSep Finset.univ (done m c) ∗ bigSep Finset.univ (free (F := F) c)
    ∗ ((∃ f, st c 0 f) ∗ (∃ f, st c 1 f) ∗ semVal ((c : Thread nD τ), .dma (stageS 0)) 0 ∗ semVal ((c : Thread nD τ), .dma (stageS 1)) 0)
    ∗ (bigSep Finset.univ fun j : Fin 4 => iprop(∃ f, acc c j.val f))
    ∗ ((∃ f, xs c 0 f) ∗ (∃ f, xs c 1 f) ∗ (∃ f, xs c 2 f))
    ∗ (bigSep Finset.univ fun q : Fin 4 => iprop(∃ f, xg c (src c q).val f))
    ∗ semVal (barCell c) 0
    ∗ (bigSep Finset.univ fun q : Fin 4 => semVal (recvCell c (src c q)) 0)
    ∗ (semVal (sendCell c 0) 0 ∗ semVal (sendCell c 1) 0 ∗ semVal (sendCell c 2) 0))

/-- Blocks in hand after `n` points. -/
def arr (n : ℕ) : ℕ := max 1 ((n + 3) / 4)

/-- The device's state, and what it owes, after `n` points. -/
def state (n : ℕ) : sProp 𝕄 :=
  if n = 0 then iprop(start m c ∗ ow c (O₀ c)) else if n = 16 then iprop(final m c ∗ ow c 0) else iprop(work m c (arr n) n n ∗ ow c 0)

end Cert.AllToAll

end
-- ==== Proof.Exchange.lean ====
/-
  The first grid point's exchange, piece by piece: the device stages its rows of `x` block by block, tells its peers it
  is ready, waits for them, and sends each peer its block. Each piece is run as printed, from what it needs to what it
  leaves.
-/
module

public import proofs.«01_k».proof.Proof.State

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ) (c : Dev nD)
variable (i : grid0.Coords) (arg4 : Memref sig .tc .vmem S1024x2048 .fp8e4m3) (harg4 : arg4.IsWhole) (arg5 : Memref sig .tc .smem S1 .f32) (harg5 : arg5.IsWhole)
  (arg6 : Memref sig .tc .smem S1 .f32) (harg6 : arg6.IsWhole)

/-- A program at its end. -/
theorem wp_end {α : Type} {a : α} {Q : α → sProp 𝕄} : Q a ⊢ WP c (.ret a) Q := by
  unfold WP; rw [wp_ret]; exact fupd_intro

/-- The row block of `x` meant for device `d`, as the stage holds it. -/
abbrev blk (d : Dev nD) : S1x1024x1024.Idx → Elt F .f32 := rows (m ((c : Thread nD τ).loc main_arg0)) d
/-- Stage counter `k` at zero. -/
abbrev sv (k : Fin 2) : sProp 𝕄 := semVal ((c : Thread nD τ), .dma (stageS k)) 0
/-- What the signal to peer `p` spends: the duty, the slot of `xg` the peer writes, and the mark that its receive cell is open. -/
def ready (p : Dev nD) : sProp 𝕄 := iprop(dutyTok ER (barCell p) 0 c ∗ (∃ f, xg c p.val f) ∗ reached ER (recvCell c p) 0)
/-- What the send from slot `j` to peer `p` spends besides its block. -/
def permit (p : Dev nD) (j : Fin 3) : sProp 𝕄 :=
  iprop(barPay c p ∗ dutyTok ER (sendCell c j) 0 c ∗ reached ER (sendCell c j) 0 ∗ dutyTok ER (recvCell p c) 0 c)

/-- The first two row blocks are under way and two of the three peers told. -/
theorem run1 (hw : k0_chk1 i (me c)) (h1 : k0_cond1 i = 1#1) {Q : (Σ' (_ : Sems sig S_), BitVec 32) → sProp 𝕄} :
    iprop((invs m κ ∗ xAt m c fullShare.left ∗ xAt m c fullShare.right ∗ (∃ f, st c 0 f) ∗ (∃ f, st c 1 f) ∗ sv c 0 ∗ sv c 1 ∗ ow c (O₀ c)
        ∗ ready c (far 1 c) ∗ ready c (far 2 c))
      ∗ ((staged m c 0 (far 3 c) fullShare.left ∗ staged m c 1 (far 2 c) fullShare.right ∗ ow c (O₁ c + owedB 3 c))
        -∗ Q ⟨SemArray.scalar (sig.barrier 0 rfl), Scalar.remsi (Scalar.addi (me c) 3#32) 4#32⟩))
      ⊢ WP c (k0_part1 i (Memref.whole main_v5) (Memref.isWhole_whole _) xM (Memref.isWhole_whole _) arg4 harg4 arg5 harg5 arg6 harg6 oM (Memref.isWhole_whole _) accM (Memref.isWhole_whole _) xgM (Memref.isWhole_whole _) obM (Memref.isWhole_whole _) xsM (Memref.isWhole_whole _) stM (Memref.isWhole_whole _) cc0_scratch5 cc0_scratch6 cc0_scratch7 cc0_scratch8 (me c) hw h1) Q := by
  simp only [k0_part1_eq_skeleton]; unfold k0_part1_skel
  simp only [semSignalWord, semWaitWord, Prog.lift, Prog.bind_op, Prog.bind_ret, Prog.pure_eq_ret]
  unfold ready
  iintro ⟨⟨#HI, Hx0, Hx1, Hs0, Hs1, Hv0, Hv1, HO, ⟨Ha1, Ha2, Ha3⟩, ⟨Hb1, Hb2, Hb3⟩⟩, Hk⟩
  iapply (wp_stage m c 0 (far 3 c) fullShare.left rfl (off1_eq c).2.2.2 (stage_sem 0 rfl _ _)) $$ [Hx0 Hs0 Hv0]
  · iframe; iexact Hs0
  iintro HF0
  iapply (wp_stage m c 1 (far 2 c) fullShare.right rfl (off1_eq c).2.2.1 (stage_sem 1 rfl _ _)) $$ [Hx1 Hs1 Hv1]
  · iframe; iexact Hs1
  iintro HF1
  iapply (wp_bar_signal m κ c (far 1 c) (far_ne c).1.symm (dev1_eq c _) rfl (O₁ c + owedB 3 c + owedB 2 c)) $$ [HO Ha1 Ha2 Ha3]
  · isplitr; · iexact HI
    isplitl [HO]; · iexact HO
    iframe
  iintro HO
  iapply (wp_bar_signal m κ c (far 2 c) (far_ne c).2.1.symm (dev2_eq c _) rfl (O₁ c + owedB 3 c)) $$ [HO Hb1 Hb2 Hb3]
  · isplitr; · iexact HI
    isplitl [HO]; · iexact HO
    iframe
  iintro HO
  iapply wp_end
  iapply Hk
  iframe

/-- The last peer told, all three heard from, the first block cast into send slot 0. -/
theorem run2 (hw : k0_chk1 i (me c)) (h1 : k0_cond1 i = 1#1) (v : BitVec 32) {Q : PUnit → sProp 𝕄} :
    iprop((invs m κ ∗ levAts L lv ∗ ow c (O₁ c + owedB 3 c) ∗ ready c (far 3 c) ∗ cred (tallyAt (barCell c) () 3) ∗ atPos ER (barCell c) 0 ∅ 0
        ∗ staged m c 0 (far 3 c) fullShare.left ∗ (∃ f, xs c 0 f))
      ∗ ((ow c (O₁ c) ∗ atPos ER (barCell c) 1 ∅ 0 ∗ barPay c (far 1 c) ∗ barPay c (far 2 c) ∗ barPay c (far 3 c)
          ∗ st c 0 (spread 2 (blk m c (far 3 c))) ∗ xAt m c fullShare.left ∗ sv c 0 ∗ xs c 0 (spread 3 (chunk m c (far 3 c)))) -∗ Q ⟨⟩))
      ⊢ WP c (k0_part2 i (Memref.whole main_v5) (Memref.isWhole_whole _) xM (Memref.isWhole_whole _) arg4 harg4 arg5 harg5 arg6 harg6 oM (Memref.isWhole_whole _) accM (Memref.isWhole_whole _) xgM (Memref.isWhole_whole _) obM (Memref.isWhole_whole _) xsM (Memref.isWhole_whole _) stM (Memref.isWhole_whole _) cc0_scratch5 cc0_scratch6 cc0_scratch7 cc0_scratch8 (me c) hw h1 (SemArray.scalar (sig.barrier 0 rfl)) v) Q := by
  simp only [k0_part2_eq_skeleton]; unfold k0_part2_skel
  simp only [semSignalWord, semWaitWord, Prog.lift, Prog.bind_op, Prog.bind_ret, Prog.pure_eq_ret]
  unfold ready
  iintro ⟨⟨#HI, #Hlev, HO, ⟨Ha1, Ha2, Ha3⟩, Hc, Hat, HF0, Hxs⟩, Hk⟩
  iapply (wp_bar_signal m κ c (far 3 c) (far_ne c).2.2.symm (dev3_eq c _) rfl (O₁ c)) $$ [HO Ha1 Ha2 Ha3]
  · isplitr; · iexact HI
    isplitl [HO]; · iexact HO
    iframe
  iintro HO
  iapply (wp_bar_wait m κ c rfl (above_O₁ (by decide) c)) $$ [HO Hc Hat]
  · isplitr; · iexact HI
    isplitl [HO]; · iexact HO
    isplitr; · iexact Hlev
    iframe
  iintro ⟨HO, Hat, Hp1, Hp2, Hp3⟩
  iapply (wp_stage_wait m c 0 (far 3 c) fullShare.left (above_O₁ (by decide) c) (stage_sem 0 rfl _ _)) $$ [HO HF0]
  · isplitl [HF0]; · iexact HF0
    isplitl [HO]; · iexact HO
    iexact Hlev
  iintro ⟨Hst, Hx, Hv, HO⟩
  iapply (wp_st_load c rfl (blk m c (far 3 c))) $$ [Hst]
  · iexact Hst
  iintro Hst
  iapply (wp_xs_any c rfl) $$ [Hxs]
  · iexact Hxs
  iintro %u Hxs
  iapply (wp_xs_store c rfl (chunk m c (far 3 c))) $$ [Hxs]
  · iexact Hxs
  iintro Hxs
  iapply wp_end
  iapply Hk
  iframe

/-- Slot 0 sent, the third row block under way, the second cast into send slot 1. -/
theorem run3 (hw : k0_chk1 i (me c)) (h1 : k0_cond1 i = 1#1) {Q : PUnit → sProp 𝕄} :
    iprop((invs m κ ∗ levAts L lv ∗ ow c (O₁ c) ∗ permit c (far 3 c) 0 ∗ xs c 0 (spread 3 (chunk m c (far 3 c))) ∗ xAt m c fullShare.left ∗ (∃ f, st c 0 f) ∗ sv c 0
        ∗ staged m c 1 (far 2 c) fullShare.right ∗ (∃ f, xs c 1 f))
      ∗ ((ow c (owedR 1 c + owedR 2 c) ∗ cred (tallyAt (sendCell c 0) () N) ∗ staged m c 0 (far 1 c) fullShare.left
          ∗ st c 1 (spread 2 (blk m c (far 2 c))) ∗ xAt m c fullShare.right ∗ sv c 1 ∗ xs c 1 (spread 3 (chunk m c (far 2 c)))) -∗ Q ⟨⟩))
      ⊢ WP c (k0_part3 i (Memref.whole main_v5) (Memref.isWhole_whole _) xM (Memref.isWhole_whole _) arg4 harg4 arg5 harg5 arg6 harg6 oM (Memref.isWhole_whole _) accM (Memref.isWhole_whole _) xgM (Memref.isWhole_whole _) obM (Memref.isWhole_whole _) xsM (Memref.isWhole_whole _) stM (Memref.isWhole_whole _) cc0_scratch5 cc0_scratch6 cc0_scratch7 cc0_scratch8 (me c) hw h1) Q := by
  simp only [k0_part3_eq_skeleton]; unfold k0_part3_skel
  simp only [Prog.lift, Prog.bind_op, Prog.bind_ret, Prog.pure_eq_ret]
  unfold permit
  iintro ⟨⟨#HI, #Hlev, HO, ⟨Hp, Ht, Hr, Hd⟩, Hxs0, Hx, Hst, Hv, HF1, Hxs1⟩, Hk⟩
  iapply (wp_send m κ c (far 3 c) (far_ne c).2.2 0 (dev4_eq c _) (off3_eq c) rfl (send_sem 0 rfl _ _) (recv_sem c (off2_eq c) _ _) (owedR 1 c + owedR 2 c)) $$ [HO Hxs0 Hp Ht Hr Hd]
  · isplitr; · iexact HI
    isplitl [HO]; · iexact HO
    isplitl [Hxs0]; · iexact Hxs0
    iframe
  iintro ⟨HO, Hcr⟩
  iapply (wp_stage m c 0 (far 1 c) fullShare.left rfl (off1_eq c).2.1 (stage_sem 0 rfl _ _)) $$ [Hx Hst Hv]
  · iframe; iexact Hst
  iintro HF0
  iapply (wp_stage_wait m c 1 (far 2 c) fullShare.right (above_add (above_R (by decide) 1 c) (above_R (by decide) 2 c)) (stage_sem 1 rfl _ _)) $$ [HO HF1]
  · isplitl [HF1]; · iexact HF1
    isplitl [HO]; · iexact HO
    iexact Hlev
  iintro ⟨Hst, Hx, Hv, HO⟩
  iapply (wp_st_load c rfl (blk m c (far 2 c))) $$ [Hst]
  · iexact Hst
  iintro Hst
  iapply (wp_xs_any c rfl) $$ [Hxs1]
  · iexact Hxs1
  iintro %u Hxs
  iapply (wp_xs_store c rfl (chunk m c (far 2 c))) $$ [Hxs]
  · iexact Hxs
  iintro Hxs
  iapply wp_end
  iapply Hk
  iframe

/-- Slot 1 sent, the device's own row block under way, the third cast into send slot 2. -/
theorem run4 (hw : k0_chk1 i (me c)) (h1 : k0_cond1 i = 1#1) {Q : BitVec 32 → sProp 𝕄} :
    iprop((invs m κ ∗ levAts L lv ∗ ow c (owedR 1 c + owedR 2 c) ∗ permit c (far 2 c) 1 ∗ xs c 1 (spread 3 (chunk m c (far 2 c))) ∗ xAt m c fullShare.right ∗ (∃ f, st c 1 f) ∗ sv c 1
        ∗ staged m c 0 (far 1 c) fullShare.left ∗ (∃ f, xs c 2 f))
      ∗ ((ow c (owedR 1 c) ∗ cred (tallyAt (sendCell c 1) () N) ∗ staged m c 1 (far 0 c) fullShare.right
          ∗ st c 0 (spread 2 (blk m c (far 1 c))) ∗ xAt m c fullShare.left ∗ sv c 0 ∗ xs c 2 (spread 3 (chunk m c (far 1 c)))) -∗ Q (Scalar.addi (me c) 1#32)))
      ⊢ WP c (k0_part4 i (Memref.whole main_v5) (Memref.isWhole_whole _) xM (Memref.isWhole_whole _) arg4 harg4 arg5 harg5 arg6 harg6 oM (Memref.isWhole_whole _) accM (Memref.isWhole_whole _) xgM (Memref.isWhole_whole _) obM (Memref.isWhole_whole _) xsM (Memref.isWhole_whole _) stM (Memref.isWhole_whole _) cc0_scratch5 cc0_scratch6 cc0_scratch7 cc0_scratch8 (me c) hw h1) Q := by
  simp only [k0_part4_eq_skeleton]; unfold k0_part4_skel
  simp only [Prog.lift, Prog.bind_op, Prog.bind_ret, Prog.pure_eq_ret]
  unfold permit
  iintro ⟨⟨#HI, #Hlev, HO, ⟨Hp, Ht, Hr, Hd⟩, Hxs1, Hx, Hst, Hv, HF0, Hxs2⟩, Hk⟩
  iapply (wp_send m κ c (far 2 c) (far_ne c).2.1 1 (dev5_eq c _) (off3_eq c) rfl (send_sem 1 rfl _ _) (recv_sem c (off2_eq c) _ _) (owedR 1 c)) $$ [HO Hxs1 Hp Ht Hr Hd]
  · isplitr; · iexact HI
    isplitl [HO]; · iexact HO
    isplitl [Hxs1]; · iexact Hxs1
    iframe
  iintro ⟨HO, Hcr⟩
  iapply (wp_stage m c 1 (far 0 c) fullShare.right rfl (off1_eq c).1 (stage_sem 1 rfl _ _)) $$ [Hx Hst Hv]
  · iframe; iexact Hst
  iintro HF1
  iapply (wp_stage_wait m c 0 (far 1 c) fullShare.left (above_R (by decide) 1 c) (stage_sem 0 rfl _ _)) $$ [HO HF0]
  · isplitl [HF0]; · iexact HF0
    isplitl [HO]; · iexact HO
    iexact Hlev
  iintro ⟨Hst, Hx, Hv, HO⟩
  iapply (wp_st_load c rfl (blk m c (far 1 c))) $$ [Hst]
  · iexact Hst
  iintro Hst
  iapply (wp_xs_any c rfl) $$ [Hxs2]
  · iexact Hxs2
  iintro %u Hxs
  iapply (wp_xs_store c rfl (chunk m c (far 1 c))) $$ [Hxs]
  · iexact Hxs
  iintro Hxs
  iapply wp_end
  iapply Hk
  iframe

end Cert.AllToAll

end
-- ==== Proof.Point.lean ====
/-
  The first half of a grid point: the exchange (at the first point), the wait for a peer's block (at the first point of
  a later pass), the product of the block in hand with the weights' block, and in pass 0 the first write of the
  accumulator's column.
-/
module

public import proofs.«01_k».proof.Proof.Exchange

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ) (c : Dev nD)
variable (i : grid0.Coords) (arg4 : Memref sig .tc .vmem S1024x2048 .fp8e4m3) (harg4 : arg4.IsWhole) (arg5 : Memref sig .tc .smem S1 .f32) (harg5 : arg5.IsWhole)
  (arg6 : Memref sig .tc .smem S1 .f32) (harg6 : arg6.IsWhole)

/-- How many points come before point `i`. -/
def cnt : ℕ := 4 * (i 0).val + (i 1).val

theorem lt_q : (i 0).val < 4 := (i 0).isLt
theorem lt_j : (i 1).val < 4 := (i 1).isLt

/-- The device's word read out of the table. -/
theorem wp_table {α : Type} {inb hl} {k : (S1.Idx → Elt F .i32) → Prog (TpuEff nD τ sig (Elt F) Λ₀ .tc) α} {Q : α → sProp 𝕄} :
    tbl c ⊢ iprop((tbl c -∗ WP c (k (fun _ => me c)) Q) -∗ WP c (.op (.load (Memref.whole main_v5) (Rect.unit (s := S1) ![0] S1.size inb).toLoadRect hl) k) Q) :=
  wp_load_rect (defs := defs₀ (F := F)) 𝒱₀ (c : Thread nD τ) none Set.univ (Q := Q) (m := (Memref.whole main_v5 : Memref sig .tc .smem S1 .i32)) (r := (Rect.unit (s := S1) ![0] S1.size inb)) (hl := hl) (k := k)
    (q := fullShare) (f := fun _ => me c) (Finset.subset_univ _)

theorem src_zero : src c 0 = c := by revert c; decide
theorem far_zero : far 0 c = c := by revert c; decide
theorem src_ne (q : Fin 4) (h : 0 < q.val) : src c q ≠ c := by revert c q; decide

/-- The whole weights' block, loaded. -/
theorem whole_emb {e : EltTy} (X : S1024x2048.Idx → Elt F e) (inb) : (fun x => X ((Rect.unit (s := S1024x2048) ![0, 0] S1024x2048.size inb).emb x)) = X := by
  funext x; congr 1; funext k
  refine Fin.ext ?_
  fin_cases k
  · exact (Nat.zero_add _).trans (Nat.one_mul _)
  · exact (Nat.zero_add _).trans (Nat.one_mul _)

theorem one_idx (x : S1.Idx) : x = i0 := by
  funext k
  fin_cases k
  exact Fin.ext (by have : (x 0).val < 1 := (x 0).isLt; show (x 0).val = 0; omega)

theorem wp_word {sp : CoreSpace} (M : Memref sig .tc sp S1 .f32) (X : S1.Idx → Elt F .f32) {inb hl} {α : Type}
    {k : (S1.Idx → Elt F .f32) → Prog (TpuEff nD τ sig (Elt F) Λ₀ .tc) α} {Q : α → sProp 𝕄} :
    owns (c : Thread nD τ) M fullShare X ⊢ iprop((owns (c : Thread nD τ) M fullShare X -∗ WP c (k (fun _ => X i0)) Q)
      -∗ WP c (.op (.load M (Rect.unit (s := S1) ![0] S1.size inb).toLoadRect hl) k) Q) := by
  have h := owns_load c M (Rect.unit (s := S1) ![0] S1.size inb) fullShare X (hl := hl) (k := k) (Q := Q)
  rw [show (fun x => X ((Rect.unit (s := S1) ![0] S1.size inb).emb x)) = fun _ => X i0 from funext fun x => congrArg X (one_idx _)] at h
  exact h

theorem wp_block {sp : CoreSpace} {e : EltTy} (M : Memref sig .tc sp S1024x2048 e) (X : S1024x2048.Idx → Elt F e) {inb hl} {α : Type}
    {k : (S1024x2048.Idx → Elt F e) → Prog (TpuEff nD τ sig (Elt F) Λ₀ .tc) α} {Q : α → sProp 𝕄} :
    owns (c : Thread nD τ) M fullShare X ⊢ iprop((owns (c : Thread nD τ) M fullShare X -∗ WP c (k X) Q)
      -∗ WP c (.op (.load M (Rect.unit (s := S1024x2048) ![0, 0] S1024x2048.size inb).toLoadRect hl) k) Q) := by
  have h := owns_load c M (Rect.unit (s := S1024x2048) ![0, 0] S1024x2048.size inb) fullShare X (hl := hl) (k := k) (Q := Q)
  rw [whole_emb] at h
  exact h

/-- A side condition the program asks for, proved. -/
theorem wp_given {α : Type} {p : Prop} {d : Decidable p} {k : PLift p → Prog (TpuEff nD τ sig (Elt F) Λ₀ .tc) α} {Q : α → sProp 𝕄} {P : sProp 𝕄} (h : p)
    (hk : P ⊢ WP c (k ⟨h⟩) Q) : P ⊢ WP c (.op (.assume p d) k) Q :=
  hk.trans (wp_assume 𝒱₀ (c : Thread nD τ) none Set.univ h)

/-- A program and what it is followed by, run one after the other. -/
theorem wp_seq {α β : Type} {p : Prog (TpuEff nD τ sig (Elt F) Λ₀ .tc) β} {k : β → Prog (TpuEff nD τ sig (Elt F) Λ₀ .tc) α} {Q : α → sProp 𝕄} :
    WP c p (fun v => WP c (k v) Q) ⊢ WP c (p >>= k) Q := by
  unfold WP; rw [wp_bind_eq]; exact BI.Entails.refl _

/-- Everything before the product: the exchange has been done, and the block of the point's pass is in hand. -/
def mid (a : ℕ) : sProp 𝕄 := iprop(work m c ((i 0).val + 1) a (cnt i) ∗ ow c 0)

theorem above_zero (b : ℕ) : Above b 0 := fun g i h => absurd h (by simp)

theorem arr_zero : arr 0 = 1 := rfl
theorem arr_cnt (h : ¬(0 < (i 0).val ∧ (i 1).val = 0)) : arr (cnt i) = (i 0).val + 1 := by
  have := lt_q i; have := lt_j i; unfold arr cnt; omega
theorem arr_cnt' (h : 0 < (i 0).val ∧ (i 1).val = 0) : arr (cnt i) = (i 0).val := by
  have := lt_q i; have := lt_j i; unfold arr cnt; omega

theorem state_of_pos {n : ℕ} (h : n ≠ 0) (h' : n ≠ 16) : state m c n = iprop(work m c (arr n) n n ∗ ow c 0) := by
  unfold state; rw [if_neg h, if_neg h']

theorem accs_zero : accs m c 0 = fun j : Fin 4 => iprop(∃ f, acc c j.val f) := by
  funext j; unfold accs; rw [if_pos (Nat.zero_le _)]
theorem wr_early {n : ℕ} (h : n ≤ 12) : wr m c n = raw (F := F) c := by
  funext j; unfold wr; rw [if_pos (by omega)]
theorem idle_early {n : ℕ} (h : n ≤ 12) : idle (F := F) c n = free (F := F) c := by
  funext j; unfold idle; rw [if_pos (by omega)]

theorem rcv_in {r : ℕ} {q : Fin 4} (h : q.val < r) : rcv m c r q = rcvd m c q := if_pos h
theorem rcv_out {r : ℕ} {q : Fin 4} (h : ¬q.val < r) : rcv m c r q = awaited (F := F) c q := if_neg h
theorem rcv_other {r : ℕ} {q : Fin 4} (h : q.val ≠ r) : rcv m c (r + 1) q = rcv m c r q := by
  by_cases hr : q.val < r
  · rw [rcv_in m c hr, rcv_in m c (by omega)]
  · rw [rcv_out m c hr, rcv_out m c (by omega)]

theorem accs_raw {n : ℕ} {j : Fin 4} (h : n ≤ j.val) : accs m c n j = iprop(∃ f, acc c j.val f) := if_pos h
/-- Right after point `(p, j)` column `j` holds the sum over passes `0 … p`. -/
theorem accs_at {n : ℕ} {j : Fin 4} (p : ℕ) (h : n = 4 * p + j.val + 1) : accs m c n j = acc c j.val (tile 8192 (accVal m c j (min p 2))) := by
  unfold accs; rw [if_neg (by omega), show (n - 1 - j.val) / 4 = p by omega]
/-- A point changes no other column. -/
theorem accs_other {n : ℕ} {j : Fin 4} (h : j.val ≠ (i 1).val) (hn : n % 4 = (i 1).val) : accs m c (n + 1) j = accs m c n j := by
  have := j.isLt; have := lt_j i
  unfold accs
  by_cases hj : n ≤ j.val
  · rw [if_pos hj, if_pos (by omega)]
  · rw [if_neg hj, if_neg (by omega), show (n + 1 - 1 - j.val) / 4 = (n - 1 - j.val) / 4 by omega]

theorem accVal_zero (q j : Fin 4) (h : q.val = 0) : accVal m c j 0 = k0_pay9 (chunk m (src c q) c) (wblk m c q j) := by
  obtain rfl : q = 0 := Fin.ext h
  exact if_pos rfl

/-- `x` in two halves, and back. -/
theorem x_halves : xAt m c fullShare ⊣⊢ iprop(xAt m c fullShare.left ∗ xAt m c fullShare.right) := pointsTo_share (PosShare.mem_left_op_right _)

/-- The table out of the state, and back. -/
theorem state_tbl (n : ℕ) : state m c n ⊢ iprop(tbl c ∗ (tbl c -∗ state m c n)) := by
  unfold state start final work misc
  split_ifs
  · iintro ⟨⟨Ht, H⟩, HO⟩
    isplitl [Ht]; · iexact Ht
    iintro Ht; isplitl [Ht H]
    · isplitl [Ht]; · iexact Ht
      iexact H
    iexact HO
  · iintro ⟨⟨Ht, H⟩, HO⟩
    isplitl [Ht]; · iexact Ht
    iintro Ht; isplitl [Ht H]
    · isplitl [Ht]; · iexact Ht
      iexact H
    iexact HO
  · iintro ⟨⟨⟨Ht, H⟩, H'⟩, HO⟩
    isplitl [Ht]; · iexact Ht
    iintro Ht; isplitl [Ht H H']
    · isplitl [Ht H]
      · isplitl [Ht]; · iexact Ht
        iexact H
      iexact H'
    iexact HO

set_option maxHeartbeats 1000000 in
/-- The first half of point `i`, run. -/
theorem run6 {Q : _ → sProp 𝕄} :
    iprop((invs m κ ∗ levAts L lv ∗ state m c (cnt i)
        ∗ owns (c : Thread nD τ) arg4 fullShare (wblk m c (i 0) (i 1))
        ∗ owns (c : Thread nD τ) arg5 fullShare (m ((c : Thread nD τ).loc main_arg2)) ∗ owns (c : Thread nD τ) arg6 fullShare (m ((c : Thread nD τ).loc main_arg3)))
      ∗ (∀ a b hw v15 v31 z, (mid m c i (if (i 0).val = 0 then cnt i + 1 else cnt i)
        ∗ owns (c : Thread nD τ) arg4 fullShare (wblk m c (i 0) (i 1))
        ∗ owns (c : Thread nD τ) arg5 fullShare (m ((c : Thread nD τ).loc main_arg2)) ∗ owns (c : Thread nD τ) arg6 fullShare (m ((c : Thread nD τ).loc main_arg3)))
        -∗ Q ⟨a, b, me c, hw, v15, scale m c, prod m c (i 0) (i 1), v31, z⟩))
      ⊢ WP c (k0_part6 i (Memref.whole main_v5) (Memref.isWhole_whole _) xM (Memref.isWhole_whole _) arg4 harg4 arg5 harg5 arg6 harg6 oM (Memref.isWhole_whole _) accM (Memref.isWhole_whole _) xgM (Memref.isWhole_whole _) obM (Memref.isWhole_whole _) xsM (Memref.isWhole_whole _) stM (Memref.isWhole_whole _) cc0_scratch5 cc0_scratch6 cc0_scratch7 cc0_scratch8) Q := by
  simp only [k0_part6_eq_skeleton]; unfold k0_part6_skel
  simp only [smemLoad, smemLoadElt, Prog.lift, Prog.bind_op, Prog.bind_ret, Prog.pure_eq_ret]
  iintro ⟨⟨#HI, #Hlev, Hs, Hw, Hsx, Hsw⟩, Hk⟩
  -- the table
  ihave ⟨Ht, Hs⟩ := (state_tbl m c (cnt i)) $$ Hs
  iapply (wp_table c) $$ Ht
  iintro Ht
  ispecialize Hs $$ Ht
  iapply (wp_given c (P := iprop((invs m κ ∗ levAts L lv ∗ state m c (cnt i)
        ∗ owns (c : Thread nD τ) arg4 fullShare (wblk m c (i 0) (i 1))
        ∗ owns (c : Thread nD τ) arg5 fullShare (m ((c : Thread nD τ).loc main_arg2)) ∗ owns (c : Thread nD τ) arg6 fullShare (m ((c : Thread nD τ).loc main_arg3)))
      ∗ (∀ a b hw v15 v31 z, (mid m c i (if (i 0).val = 0 then cnt i + 1 else cnt i)
        ∗ owns (c : Thread nD τ) arg4 fullShare (wblk m c (i 0) (i 1))
        ∗ owns (c : Thread nD τ) arg5 fullShare (m ((c : Thread nD τ).loc main_arg2)) ∗ owns (c : Thread nD τ) arg6 fullShare (m ((c : Thread nD τ).loc main_arg3)))
        -∗ Q ⟨a, b, me c, hw, v15, scale m c, prod m c (i 0) (i 1), v31, z⟩))) (chk i c) ?_) $$ [Hs Hw Hsx Hsw Hk]; rotate_left
  · isplitr [Hk]
    · isplitr; · iexact HI
      isplitr; · iexact Hlev
      iframe
    iexact Hk
  dsimp only
  -- what comes once the block is in hand
  generalize hT : (Prog.op (TpuEff.load arg5 _ _) _ : Prog (TpuEff nD τ sig (Elt F) Λ₀ .tc) _) = T
  have run : iprop(mid m c i (cnt i) ∗ owns (c : Thread nD τ) arg4 fullShare (wblk m c (i 0) (i 1))
        ∗ owns (c : Thread nD τ) arg5 fullShare (m ((c : Thread nD τ).loc main_arg2)) ∗ owns (c : Thread nD τ) arg6 fullShare (m ((c : Thread nD τ).loc main_arg3))
      ∗ (∀ a b hw v15 v31 z, (mid m c i (if (i 0).val = 0 then cnt i + 1 else cnt i)
        ∗ owns (c : Thread nD τ) arg4 fullShare (wblk m c (i 0) (i 1))
        ∗ owns (c : Thread nD τ) arg5 fullShare (m ((c : Thread nD τ).loc main_arg2)) ∗ owns (c : Thread nD τ) arg6 fullShare (m ((c : Thread nD τ).loc main_arg3)))
        -∗ Q ⟨a, b, me c, hw, v15, scale m c, prod m c (i 0) (i 1), v31, z⟩)) ⊢ WP c T Q := by
    rw [← hT]; clear hT
    unfold scale prod
    iintro ⟨Hs, Hw, Hsx, Hsw, Hk⟩
    unfold mid work
    icases Hs with ⟨⟨Hm, Hsn, Hr, Ha, Hrest⟩, HO⟩
    iapply (wp_word c arg5 _) $$ Hsx
    iintro Hsx
    iapply (wp_word c arg6 _) $$ Hsw
    iintro Hsw
    have look := bigSep_univ_update (Φ := rcv m c ((i 0).val + 1)) (Ψ := rcv m c ((i 0).val + 1)) (i 0 : Fin 4) (fun _ _ => rfl)
    rw [rcv_in m c (Nat.lt_succ_self (i 0).val)] at look
    unfold rcvd got at look
    ihave ⟨⟨Hat, Hg⟩, Hr⟩ := look $$ Hr
    iapply (wp_xg_load c (off7_eq i c) (chunk m (src c (i 0)) c)) $$ [Hg]
    · iexact Hg
    iintro Hg
    ispecialize Hr $$ [Hat Hg]
    · iframe
    iapply (wp_block c arg4 _) $$ Hw
    iintro Hw
    by_cases h3 : k0_cond3 i = 1#1
    · -- pass 0 writes the accumulator
      rw [dif_pos h3]
      have hq := (cond3_iff i).1 h3
      have hc : cnt i = (i 1).val := by unfold cnt; omega
      rw [if_pos hq]
      have col := bigSep_univ_update (Φ := accs m c (cnt i)) (Ψ := accs m c (cnt i + 1)) (i 1 : Fin 4)
        (fun j hj => accs_other m c i (fun h => hj (Fin.ext h)) (by have := lt_j i; unfold cnt; omega))
      have e : accVal m c (i 1) (min 0 2) = k0_pay9 (chunk m (src c (i 0)) c) (wblk m c (i 0) (i 1)) := accVal_zero m c (i 0) (i 1) hq
      rw [accs_raw m c (j := i 1) (le_of_eq hc), accs_at m c (j := i 1) 0 (by rw [hc]; omega), e] at col
      ihave ⟨Hj, Ha⟩ := col $$ Ha
      iapply (wp_acc_any c (off8_eq i)) $$ Hj
      iintro %u Hj
      iapply (wp_acc_store c (off8_eq i) (k0_pay9 (chunk m (src c (i 0)) c) (wblk m c (i 0) (i 1)))) $$ Hj
      iintro Hj
      ispecialize Ha $$ Hj
      iapply wp_end
      iapply Hk
      iframe
    · rw [dif_neg h3, if_neg (fun h => h3 ((cond3_iff i).2 h))]
      iapply wp_end
      iapply Hk
      iframe
  by_cases h1 : k0_cond1 i = 1#1
  · -- the exchange
    rw [dif_pos h1]
    obtain ⟨hq, hj⟩ := (cond1_iff i).1 h1
    have h0 : cnt i = 0 := by unfold cnt; omega
    rw [h0] at run ⊢
    rw [show state m c 0 = iprop(start m c ∗ ow c (O₀ c)) from if_pos rfl]
    unfold start
    iintro ⟨⟨#HI, #Hlev, Hs, Hw, Hsx, Hsw⟩, Hk⟩
    icases Hs with ⟨⟨Ht, Hx, Hout, Hfree, ⟨Hs0, Hs1, Hv0, Hv1⟩, Hacc, ⟨Hxs0, Hxs1, Hxs2⟩, ⟨Hg0, Hg1, Hg2, Hg3⟩, ⟨Hab, Hcb⟩, Hrcv, ⟨Hm1, Hm2, Hm3⟩, ⟨Hat0, Hat1, Hat2⟩, ⟨Hr0, Hr1, Hr2⟩, ⟨Hd0, Hd1, Hd2⟩, ⟨Hb1, Hb2, Hb3⟩, ⟨He1, He2, He3⟩⟩, HO⟩
    ihave ⟨Hx0, Hx1⟩ := (x_halves m c).1 $$ Hx
    iapply (wp_seq c)
    iapply (run1 m κ c i arg4 harg4 arg5 harg5 arg6 harg6 (chk i c) h1)
    isplitl [Hx0 Hx1 Hs0 Hs1 Hv0 Hv1 HO Hb1 Hb2 Hg1 Hg2 Hm1 Hm2]
    · isplitr; · iexact HI
      unfold ready; iframe
    iintro ⟨HF0, HF1, HO⟩
    iapply (wp_seq c)
    iapply (run2 m κ c i arg4 harg4 arg5 harg5 arg6 harg6 (chk i c) h1)
    isplitl [HO Hb3 Hg3 Hm3 Hab Hcb HF0 Hxs0]
    · isplitr; · iexact HI
      isplitr; · iexact Hlev
      unfold ready; iframe
    iintro ⟨HO, Hab, Hp1, Hp2, Hp3, Hs0, Hx0, Hv0, Hxs0⟩
    iapply (wp_seq c)
    iapply (run3 m κ c i arg4 harg4 arg5 harg5 arg6 harg6 (chk i c) h1)
    isplitl [HO Hp3 Hd0 Hr0 He3 Hxs0 Hx0 Hs0 Hv0 HF1 Hxs1]
    · isplitr; · iexact HI
      isplitr; · iexact Hlev
      unfold permit; iframe
      iexists _; iexact Hs0
    iintro ⟨HO, Hc0, HF0, Hs1, Hx1, Hv1, Hxs1⟩
    iapply (wp_seq c)
    iapply (run4 m κ c i arg4 harg4 arg5 harg5 arg6 harg6 (chk i c) h1)
    isplitl [HO Hp2 Hd1 Hr1 He2 Hxs1 Hx1 Hs1 Hv1 HF0 Hxs2]
    · isplitr; · iexact HI
      isplitr; · iexact Hlev
      unfold permit; iframe
      iexists _; iexact Hs1
    iintro ⟨HO, Hc1, HF1, Hs0, Hx0, Hv0, Hxs2⟩
    iapply (wp_send m κ c (far 1 c) (far_ne c).1 2 (dev6_eq c _) (off3_eq c) rfl (send_sem 2 rfl _ _) (recv_sem c (off2_eq c) _ _) 0) $$ [HO Hxs2 Hp1 Hd2 Hr2 He1]
    · isplitr; · iexact HI
      isplitl [HO]; · rw [zero_add]; iexact HO
      isplitl [Hxs2]; · iexact Hxs2
      iframe
    iintro ⟨HO, Hc2⟩
    iapply (wp_stage_wait m c 1 (far 0 c) fullShare.right (above_zero 0) (stage_sem 1 rfl _ _)) $$ [HO HF1]
    · isplitl [HF1]; · iexact HF1
      isplitl [HO]; · iexact HO
      iexact Hlev
    iintro ⟨Hs1, Hx1, Hv1, HO⟩
    iapply (wp_st_load c rfl (blk m c (far 0 c))) $$ [Hs1]
    · iexact Hs1
    iintro Hs1
    iapply (wp_xg_any c (off4_eq c)) $$ [Hg0]
    · rw [src_zero]; iexact Hg0
    iintro %u Hg0
    iapply (wp_xg_store c (off4_eq c) (chunk m c (far 0 c))) $$ [Hg0]
    · iexact Hg0
    iintro Hg0
    ihave Hx := (x_halves m c).2 $$ [Hx0 Hx1]
    · iframe
    have own := bigSep_univ_update (Φ := rcv₀ (F := F) c) (Ψ := rcv m c 1) 0 (fun q hq => by
      have : q.val ≠ 0 := fun h => hq (Fin.ext h)
      unfold rcv rcv₀; rw [if_neg this, if_neg (by omega)])
    have e0 : rcv₀ (F := F) c 0 = atPos ER (recvCell c c) 0 ∅ 0 := by unfold rcv₀; rw [if_pos (by decide), src_zero]
    rw [e0, rcv_in m c (q := 0) (by decide)] at own
    unfold rcvd got at own
    rw [if_pos (by decide), src_zero] at own
    ihave ⟨Ha, Hrcv⟩ := own $$ Hrcv
    rw [dif_neg (fun h2 => by have := (cond2_iff i).1 h2; omega)]
    iapply run
    isplitr [Hw Hsx Hsw Hk]
    · unfold mid work misc sent
      rw [h0, show (i 0).val + 1 = 1 by omega, accs_zero, wr_early m c (Nat.zero_le _), idle_early c (Nat.zero_le _)]
      isplitr [HO]
      · isplitl [Ht Hx Hs0 Hs1 Hv0 Hv1 Hab]
        · isplitl [Ht]; · iexact Ht
          isplitl [Hx]; · iexact Hx
          isplitl [Hs0]; · iexists _; iexact Hs0
          isplitl [Hs1]; · iexists _; iexact Hs1
          iframe
        isplitl [Hat0 Hat1 Hat2 Hc0 Hc1 Hc2]
        · iframe
        isplitl [Ha Hg0 Hrcv]
        · iapply Hrcv
          isplitl [Ha]; · iexact Ha
          rw [far_zero]; iexact Hg0
        iframe
      iexact HO
    · iframe
  · rw [dif_neg h1]
    rw [state_of_pos m c (fun h => h1 ((cond1_iff i).2 (by have := lt_q i; have := lt_j i; unfold cnt at h; omega))) (by have := lt_q i; have := lt_j i; unfold cnt; omega)]
    by_cases h2 : k0_cond2 i = 1#1
    · -- the wait for the pass's block
      rw [dif_pos h2]
      obtain ⟨hq, hj⟩ := (cond2_iff i).1 h2
      rw [arr_cnt' i ⟨hq, hj⟩]
      unfold work
      iintro ⟨⟨#HI, #Hlev, Hs, Hw, Hsx, Hsw⟩, Hk⟩
      icases Hs with ⟨⟨Hm, Hs, Hr, Hrest⟩, HO⟩
      have pass := bigSep_univ_update (Φ := rcv m c (i 0).val) (Ψ := rcv m c ((i 0).val + 1)) (i 0 : Fin 4)
        (fun q hq => rcv_other m c (fun h => hq (Fin.ext h)))
      rw [rcv_in m c (Nat.lt_succ_self (i 0).val), rcv_out m c (Nat.lt_irrefl (i 0).val)] at pass
      unfold awaited rcvd at pass
      rw [if_neg (Nat.pos_iff_ne_zero.1 hq)] at pass
      ihave ⟨⟨Hc, Ha⟩, Hr⟩ := pass $$ Hr
      iapply (wp_recv_wait m κ c (src c (i 0)) (src_ne c (i 0) hq) (recv_sem (src c (i 0)) (off5_eq i c) _ _)) $$ [HO Hc Ha]
      · isplitr; · iexact HI
        iframe
      iintro ⟨HO, Ha, Hg⟩
      iapply run
      isplitr [Hw Hsx Hsw Hk]
      · unfold mid work
        isplitr [HO]
        · isplitl [Hm]; · iexact Hm
          isplitl [Hs]; · iexact Hs
          isplitl [Ha Hg Hr]
          · iapply Hr
            unfold got
            isplitl [Ha]; · iexact Ha
            iapply (show recvPay m c (src c (i 0)) ⊢ xg c (src c (i 0)).val (spread 4 (chunk m (src c (i 0)) c)) from BI.Entails.refl _)
            iexact Hg
          iexact Hrest
        iexact HO
      · iframe
    · rw [dif_neg h2, arr_cnt i (fun h => h2 ((cond2_iff i).2 h))]
      iintro ⟨⟨#HI, #Hlev, Hs, Hw, Hsx, Hsw⟩, Hk⟩
      iapply run
      unfold mid
      iframe

end Cert.AllToAll

end
-- ==== Proof.Ending.lean ====
/-
  The last pass and the end: how the columns of the result and the two output slots pass from point to point, the waits
  that end the kernel, and the closing of the protocol's cells.
-/
module

public import proofs.«01_k».proof.Proof.Point

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ) (c : Dev nD)
variable (i : grid0.Coords) (arg4 : Memref sig .tc .vmem S1024x2048 .fp8e4m3) (harg4 : arg4.IsWhole) (arg5 : Memref sig .tc .smem S1 .f32) (harg5 : arg5.IsWhole)
  (arg6 : Memref sig .tc .smem S1 .f32) (harg6 : arg6.IsWhole)

/-! ## The accumulator's columns -/

theorem accs_before {n : ℕ} {j : Fin 4} (p : ℕ) (h : n = 4 * (p + 1) + j.val) : accs m c n j = acc c j.val (tile 8192 (accVal m c j (min p 2))) := by
  unfold accs; rw [if_neg (by omega), show (n - 1 - j.val) / 4 = p by omega]
/-- In the last pass nothing is added any more. -/
theorem accs_late {n : ℕ} (h : 12 ≤ n) : accs m c n = fun j : Fin 4 => acc c j.val (tile 8192 (accVal m c j 2)) := by
  funext j
  have := j.isLt
  unfold accs; rw [if_neg (by omega), show min ((n - 1 - j.val) / 4) 2 = 2 by omega]
/-- One more product. -/
theorem accVal_succ (q j : Fin 4) (h : 0 < q.val) (h' : q.val < 3) :
    accVal m c j (min q.val 2) = k0_pay1 (prod m c q j) (accVal m c j (min (q.val - 1) 2)) := by
  have : q = 1 ∨ q = 2 := by revert q; decide
  rcases this with rfl | rfl <;> rfl
/-- The block written out in the last pass. -/
theorem outBlk_at (q j : Fin 4) (h : q.val = 3) : k0_pay2 (scale m c) (prod m c q j) (accVal m c j 2) = outBlk m c j := by
  obtain rfl : q = 3 := Fin.ext h
  rfl

/-! ## The result's columns and the output slots -/

/-- The columns before `d` written, those from `w` on untouched, the others under way. -/
def cut (w d : ℕ) (j : Fin 4) : sProp 𝕄 :=
  if w ≤ j.val then raw c j else if d ≤ j.val then wrote c (par j) j.val (outBlk m c j) else done m c j

theorem wr_cut (w : ℕ) : wr m c (12 + w) = cut m c w (w - 2) := by
  funext j
  unfold wr cut
  have e1 : 12 + w ≤ 12 + j.val ↔ w ≤ j.val := by omega
  have e2 : 12 + w ≤ 14 + j.val ↔ w - 2 ≤ j.val := by omega
  simp only [e1, e2]

theorem cut_raw {w d : ℕ} {j : Fin 4} (h : w ≤ j.val) : cut m c w d j = raw (F := F) c j := if_pos h
theorem cut_wrote {w d : ℕ} {j : Fin 4} (h : ¬w ≤ j.val) (h' : d ≤ j.val) : cut m c w d j = wrote c (par j) j.val (outBlk m c j) :=
  (if_neg h).trans (if_pos h')
theorem cut_done {w d : ℕ} {j : Fin 4} (h : ¬w ≤ j.val) (h' : ¬d ≤ j.val) : cut m c w d j = done m c j :=
  (if_neg h).trans (if_neg h')
theorem cut_next {w d : ℕ} {j : Fin 4} (h : j.val ≠ w) : cut m c (w + 1) d j = cut m c w d j := by
  unfold cut
  have e1 : w + 1 ≤ j.val ↔ w ≤ j.val := by omega
  simp only [e1]
theorem cut_landed {w d : ℕ} {j : Fin 4} (h : j.val ≠ d) : cut m c w (d + 1) j = cut m c w d j := by
  unfold cut
  have e1 : d + 1 ≤ j.val ↔ d ≤ j.val := by omega
  simp only [e1]

theorem idle_in {n : ℕ} {i : Fin 2} (h : n ≤ 12 + i.val) : idle (F := F) c n i = free c i := if_pos h
theorem idle_out {n : ℕ} {i : Fin 2} (h : ¬n ≤ 12 + i.val) : idle (F := F) c n i = iprop(emp) := if_neg h
theorem idle_next {n : ℕ} {i : Fin 2} (h : n ≠ 12 + i.val) : idle (F := F) c (n + 1) i = idle c n i := by
  unfold idle
  have e1 : n + 1 ≤ 12 + i.val ↔ n ≤ 12 + i.val := by omega
  simp only [e1]

/-- A column and what it becomes. -/
theorem cut_take {w d w' d' : ℕ} (j : Fin 4) (h : ∀ k : Fin 4, k.val ≠ j.val → cut m c w' d' k = cut m c w d k) :
    bigSep Finset.univ (cut m c w d) ⊢ iprop(cut m c w d j ∗ (cut m c w' d' j -∗ bigSep Finset.univ (cut m c w' d'))) :=
  bigSep_univ_update (Φ := cut m c w d) (Ψ := cut m c w' d') j fun k hk => h k fun e => hk (Fin.ext e)

/-! ## The waits at the end -/

set_option maxHeartbeats 1000000 in
/-- Both writes landed, two of the three sends done. -/
theorem run5 (hw : k0_chk1 i (me c)) (h7 : k0_cond7 i = 1#1) {Q : PUnit → sProp 𝕄} :
    iprop((invs m κ ∗ wrote c 0 2 (outBlk m c 2) ∗ wrote c 1 3 (outBlk m c 3) ∗ sent c 0 ∗ sent c 1 ∗ ow c 0)
      ∗ ((done m c 2 ∗ done m c 3 ∗ free c 0 ∗ free c 1 ∗ (atPos ER (sendCell c 0) 1 ∅ 0 ∗ sendPay c 0) ∗ (atPos ER (sendCell c 1) 1 ∅ 0 ∗ sendPay c 1) ∗ ow c 0)
        -∗ Q ⟨⟩))
      ⊢ WP c (k0_part5 i (Memref.whole main_v5) (Memref.isWhole_whole _) xM (Memref.isWhole_whole _) arg4 harg4 arg5 harg5 arg6 harg6 oM (Memref.isWhole_whole _) accM (Memref.isWhole_whole _) xgM (Memref.isWhole_whole _) obM (Memref.isWhole_whole _) xsM (Memref.isWhole_whole _) stM (Memref.isWhole_whole _) cc0_scratch5 cc0_scratch6 cc0_scratch7 cc0_scratch8 (me c) hw h7) Q := by
  simp only [k0_part5_eq_skeleton]; unfold k0_part5_skel
  simp only [Prog.lift, Prog.bind_op, Prog.bind_ret, Prog.pure_eq_ret]
  unfold sent
  iintro ⟨⟨#HI, H2, H3, ⟨Ha0, Hc0⟩, ⟨Ha1, Hc1⟩, HO⟩, Hk⟩
  iapply (wp_write_wait c 0 2 (outBlk m c 2) (out_sem 0 rfl _ _)) $$ [H2 HO]
  · iframe
  iintro ⟨H2, Hb0, Hv0, HO⟩
  iapply (wp_write_wait c 1 3 (outBlk m c 3) (out_sem 1 rfl _ _)) $$ [H3 HO]
  · iframe
  iintro ⟨H3, Hb1, Hv1, HO⟩
  iapply (wp_send_wait m κ c 0 (send_sem 0 rfl _ _)) $$ [HO Hc0 Ha0]
  · isplitr; · iexact HI
    iframe
  iintro ⟨HO, Ha0, Hp0⟩
  iapply (wp_send_wait m κ c 1 (send_sem 1 rfl _ _)) $$ [HO Hc1 Ha1]
  · isplitr; · iexact HI
    iframe
  iintro ⟨HO, Ha1, Hp1⟩
  iapply wp_end
  iapply Hk
  unfold done free
  isplitl [H2]; · iexact H2
  isplitl [H3]; · iexact H3
  isplitl [Hb0 Hv0]
  · isplitl [Hb0]; · iexact Hb0
    iexact Hv0
  isplitl [Hb1 Hv1]
  · isplitl [Hb1]; · iexact Hb1
    iexact Hv1
  isplitl [Ha0 Hp0]
  · isplitl [Ha0]; · iexact Ha0
    iexact Hp0
  isplitl [Ha1 Hp1]
  · isplitl [Ha1]; · iexact Ha1
    iexact Hp1
  iexact HO

/-! ## The cells closed -/

theorem close_send (k : Fin 3) : iprop(invs m κ ∗ atPos ER (sendCell c k) 1 ∅ 0) ⊢ iprop(|={Set.univ}=> semVal (sendCell c k) 0) :=
  (BIClass.sep_mono (inv_of m κ (mem_send c k)) (BI.Entails.refl _)).trans (Rounds.cell_close ER (Rd m) (Set.mem_univ _) id (duties_later m _))

theorem close_bar : iprop(invs m κ ∗ atPos ER (barCell c) 1 ∅ 0) ⊢ iprop(|={Set.univ}=> semVal (barCell c) 0) :=
  (BIClass.sep_mono (inv_of m κ (mem_bars c)) (BI.Entails.refl _)).trans (Rounds.cell_close ER (Rd m) (Set.mem_univ _) id (duties_later m _))

theorem close_recv (q : Fin 4) : iprop(invs m κ ∗ rcvd m c q) ⊢ iprop(|={Set.univ}=> (semVal (recvCell c (src c q)) 0 ∗ ∃ f, xg c (src c q).val f)) := by
  unfold rcvd got
  by_cases hq : q.val = 0
  · obtain rfl : q = 0 := Fin.ext hq
    rw [if_pos (by decide), src_zero]
    iintro ⟨#HI, Ha, Hg⟩
    imod ((BIClass.sep_mono (inv_of m κ (mem_recv c c)) (BI.Entails.refl _)).trans (Rounds.cell_close ER (Rd m) (Set.mem_univ _) id (duties_self_all m c))) $$ [Ha] with Hv
    · isplitr; · iexact HI
      iexact Ha
    imodintro
    isplitl [Hv]; · iexact Hv
    iexists _; iexact Hg
  · rw [if_neg hq]
    iintro ⟨#HI, Ha, Hg⟩
    imod ((BIClass.sep_mono (inv_of m κ (mem_recv c (src c q))) (BI.Entails.refl _)).trans (Rounds.cell_close ER (Rd m) (Set.mem_univ _) id (duties_later m _))) $$ [Ha] with Hv
    · isplitr; · iexact HI
      iexact Ha
    imodintro
    isplitl [Hv]; · iexact Hv
    iexists _; iexact Hg

/-- A family opened over its four members. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem two (Φ : Fin 2 → sProp 𝕄) : bigSep Finset.univ Φ = iprop(Φ 0 ∗ Φ 1) :=
  bigSep_univ_eq_bigSepL [0, 1] (by decide) (by decide) Φ

set_option maxHeartbeats 1000000 in
/-- Everything in hand after the last wait, and the cells closed. -/
theorem close_up :
    iprop(invs m κ ∗ misc m c ∗ (done m c 0 ∗ done m c 1 ∗ done m c 2 ∗ done m c 3) ∗ (free c 0 ∗ free c 1)
        ∗ bigSep Finset.univ (rcv m c 4) ∗ bigSep Finset.univ (accs m c 16)
        ∗ (atPos ER (sendCell c 0) 1 ∅ 0 ∗ sendPay c 0) ∗ (atPos ER (sendCell c 1) 1 ∅ 0 ∗ sendPay c 1) ∗ (atPos ER (sendCell c 2) 1 ∅ 0 ∗ sendPay c 2))
      ⊢ iprop(|={Set.univ}=> final m c) := by
  unfold final misc sendPay
  rw [accs_late m c (by decide)]
  simp only [four, two]
  rw [rcv_in m c (q := 0) (by decide), rcv_in m c (q := 1) (by decide), rcv_in m c (q := 2) (by decide), rcv_in m c (q := 3) (by decide)]
  iintro ⟨#HI, ⟨Ht, Hx, Hs0, Hs1, Hv0, Hv1, Hab⟩, Hd, Hf, ⟨Hr0, Hr1, Hr2, Hr3⟩, ⟨Hc0, Hc1, Hc2, Hc3⟩, ⟨Ha0, Hp0⟩, ⟨Ha1, Hp1⟩, ⟨Ha2, Hp2⟩⟩
  imod (close_bar m κ c) $$ [Hab] with Hb
  · isplitr; · iexact HI
    iexact Hab
  imod (close_send m κ c 0) $$ [Ha0] with Hw0
  · isplitr; · iexact HI
    iexact Ha0
  imod (close_send m κ c 1) $$ [Ha1] with Hw1
  · isplitr; · iexact HI
    iexact Ha1
  imod (close_send m κ c 2) $$ [Ha2] with Hw2
  · isplitr; · iexact HI
    iexact Ha2
  imod (close_recv m κ c 0) $$ [Hr0] with ⟨Hr0, Hg0⟩
  · isplitr; · iexact HI
    iexact Hr0
  imod (close_recv m κ c 1) $$ [Hr1] with ⟨Hr1, Hg1⟩
  · isplitr; · iexact HI
    iexact Hr1
  imod (close_recv m κ c 2) $$ [Hr2] with ⟨Hr2, Hg2⟩
  · isplitr; · iexact HI
    iexact Hr2
  imod (close_recv m κ c 3) $$ [Hr3] with ⟨Hr3, Hg3⟩
  · isplitr; · iexact HI
    iexact Hr3
  imodintro
  isplitl [Ht]; · iexact Ht
  isplitl [Hx]; · iexact Hx
  isplitl [Hd]; · iexact Hd
  isplitl [Hf]; · iexact Hf
  isplitl [Hs0 Hs1 Hv0 Hv1]
  · iframe
  isplitl [Hc0 Hc1 Hc2 Hc3]
  · isplitl [Hc0]; · iexists _; iexact Hc0
    isplitl [Hc1]; · iexists _; iexact Hc1
    isplitl [Hc2]; · iexists _; iexact Hc2
    iexists _; iexact Hc3
  isplitl [Hp0 Hp1 Hp2]
  · isplitl [Hp0]; · iexact Hp0
    isplitl [Hp1]; · iexact Hp1
    iexact Hp2
  isplitl [Hg0 Hg1 Hg2 Hg3]
  · iframe
  isplitl [Hb]; · iexact Hb
  iframe

end Cert.AllToAll

end
-- ==== Proof.Body.lean ====
/-
  The kernel's body at a point, whole: the device's state after `n` points becomes its state after `n + 1`.
-/
module

public import proofs.«01_k».proof.Proof.Ending

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ) (c : Dev nD)
variable (i : grid0.Coords) (arg4 : Memref sig .tc .vmem S1024x2048 .fp8e4m3) (harg4 : arg4.IsWhole) (arg5 : Memref sig .tc .smem S1 .f32) (harg5 : arg5.IsWhole)
  (arg6 : Memref sig .tc .smem S1 .f32) (harg6 : arg6.IsWhole)

/-- The three windows' blocks, as the point finds and leaves them. -/
def given : sProp 𝕄 :=
  iprop(owns (c : Thread nD τ) arg4 fullShare (wblk m c (i 0) (i 1)) ∗ owns (c : Thread nD τ) arg5 fullShare (m ((c : Thread nD τ).loc main_arg2))
    ∗ owns (c : Thread nD τ) arg6 fullShare (m ((c : Thread nD τ).loc main_arg3)))

/-- What the point leaves, its last waits apart. -/
def past : sProp 𝕄 := iprop(work m c ((i 0).val + 1) (cnt i + 1) (cnt i + 1) ∗ ow c 0)

theorem wp_end_upd {α : Type} {a : α} {Q : α → sProp 𝕄} : iprop(|={Set.univ}=> Q a) ⊢ WP c (.ret a) Q := by
  unfold WP; rw [wp_ret]

/-- The first half run, the second with the product in hand. -/
theorem after6 {α : Type} {k : _ → Prog (TpuEff nD τ sig (Elt F) Λ₀ .tc) α} {Q : α → sProp 𝕄} {R : sProp 𝕄}
    (h : ∀ a b hw v15 v31 z, iprop(invs m κ ∗ mid m c i (if (i 0).val = 0 then cnt i + 1 else cnt i) ∗ given m c i arg4 arg5 arg6 ∗ R)
      ⊢ WP c (k ⟨a, b, me c, hw, v15, scale m c, prod m c (i 0) (i 1), v31, z⟩) Q) :
    iprop((invs m κ ∗ levAts L lv ∗ state m c (cnt i) ∗ given m c i arg4 arg5 arg6) ∗ R)
      ⊢ WP c (k0_part6 i (Memref.whole main_v5) (Memref.isWhole_whole _) xM (Memref.isWhole_whole _) arg4 harg4 arg5 harg5 arg6 harg6 oM (Memref.isWhole_whole _) accM (Memref.isWhole_whole _) xgM (Memref.isWhole_whole _) obM (Memref.isWhole_whole _) xsM (Memref.isWhole_whole _) stM (Memref.isWhole_whole _) cc0_scratch5 cc0_scratch6 cc0_scratch7 cc0_scratch8 >>= k) Q := by
  unfold given at h ⊢
  iintro ⟨⟨#HI, #Hlev, Hs, Hg⟩, HR⟩
  iapply (wp_seq c)
  iapply (run6 m κ c i arg4 harg4 arg5 harg5 arg6 harg6)
  isplitl [Hs Hg]
  · isplitr; · iexact HI
    isplitr; · iexact Hlev
    iframe
  iintro %a %b %hw %v15 %v31 %z ⟨Hs, Hg⟩
  iapply (h a b hw v15 v31 z)
  isplitr; · iexact HI
  isplitl [Hs]; · iexact Hs
  isplitl [Hg]; · iexact Hg
  iexact HR

theorem par_back (h : 2 ≤ (i 1).val) : par ⟨(i 1).val - 2, by have := lt_j i; omega⟩ = par (i 1) :=
  Fin.ext (by show ((i 1).val - 2) % 2 = (i 1).val % 2; omega)

theorem arr_next : arr (cnt i + 1) = (i 0).val + 1 := by
  have := lt_q i; have := lt_j i; unfold arr cnt; omega

/-- The result's columns before and after a point of the last pass. -/
def turn (d : ℕ) : sProp 𝕄 :=
  iprop(bigSep Finset.univ (cut m c (i 1).val d) ∗ free c (par (i 1)) ∗ bigSep Finset.univ (idle (F := F) c (cnt i + 1)))

/-- In the first two columns the output slot is still unused. -/
theorem turn_early (hq : (i 0).val = 3) (hj : (i 1).val < 2) :
    iprop(bigSep Finset.univ (wr m c (cnt i)) ∗ bigSep Finset.univ (idle (F := F) c (cnt i))) ⊢ turn m c i ((i 1).val - 1) := by
  have hn : cnt i = 12 + (i 1).val := by unfold cnt; omega
  have hp : (par (i 1)).val = (i 1).val := Nat.mod_eq_of_lt hj
  have pick := bigSep_univ_update (Φ := idle (F := F) c (cnt i)) (Ψ := idle c (cnt i + 1)) (par (i 1))
    (fun k hk => idle_next c fun e => hk (Fin.ext (by omega)))
  rw [idle_in c (by omega), idle_out c (by omega)] at pick
  unfold turn
  rw [hn, wr_cut, show (i 1).val - 2 = (i 1).val - 1 by omega] at *
  iintro ⟨Hc, Hi⟩
  ihave ⟨Hf, Hi⟩ := pick $$ Hi
  isplitl [Hc]; · iexact Hc
  isplitl [Hf]; · iexact Hf
  iapply Hi
  iempintro

/-- Afterwards the write two columns back has to have landed. -/
theorem turn_late (hq : (i 0).val = 3) (hj : 2 ≤ (i 1).val) :
    iprop(bigSep Finset.univ (wr m c (cnt i)) ∗ bigSep Finset.univ (idle (F := F) c (cnt i)))
      ⊢ iprop(wrote c (par (i 1)) ((i 1).val - 2) (outBlk m c ⟨(i 1).val - 2, by have := lt_j i; omega⟩)
        ∗ ((out c ((i 1).val - 2) (tile 8192 (flat (outBlk m c ⟨(i 1).val - 2, by have := lt_j i; omega⟩))) ∗ free c (par (i 1))) -∗ turn m c i ((i 1).val - 1))) := by
  have hn : cnt i = 12 + (i 1).val := by unfold cnt; omega
  have hl := lt_j i
  have pick := cut_take m c (w := (i 1).val) (d := (i 1).val - 2) (w' := (i 1).val) (d' := (i 1).val - 2 + 1)
    ⟨(i 1).val - 2, by omega⟩ (fun k hk => cut_landed m c hk)
  rw [cut_wrote m c (by dsimp only; omega) (by dsimp only; omega), cut_done m c (by dsimp only; omega) (by dsimp only; omega), par_back i hj] at pick
  have hi : idle (F := F) c (cnt i + 1) = idle c (cnt i) := funext fun k => idle_next c (by have := k.isLt; omega)
  unfold turn
  rw [hi, hn, wr_cut, show (i 1).val - 1 = (i 1).val - 2 + 1 by omega]
  unfold done at pick
  iintro ⟨Hc, Hi⟩
  ihave ⟨Hw, Hc⟩ := pick $$ Hc
  isplitl [Hw]; · iexact Hw
  iintro ⟨Ho, Hf⟩
  isplitl [Ho Hc]
  · iapply Hc; iexact Ho
  isplitl [Hf]; · iexact Hf
  iexact Hi

/-- The point's own column put under way. -/
theorem turn_write (hq : (i 0).val = 3) :
    turn m c i ((i 1).val - 1) ⊢ iprop((∃ f, out c (i 1).val f) ∗ free c (par (i 1))
      ∗ (wrote c (par (i 1)) (i 1).val (outBlk m c (i 1)) -∗ (bigSep Finset.univ (wr m c (cnt i + 1)) ∗ bigSep Finset.univ (idle (F := F) c (cnt i + 1))))) := by
  have hn : cnt i + 1 = 12 + ((i 1).val + 1) := by unfold cnt; omega
  have hl := lt_j i
  have pick := cut_take m c (w := (i 1).val) (d := (i 1).val - 1) (w' := (i 1).val + 1) (d' := (i 1).val - 1)
    (i 1) (fun k hk => cut_next m c hk)
  rw [cut_raw m c (j := i 1) (by omega), cut_wrote m c (j := i 1) (by omega) (by omega)] at pick
  unfold raw at pick
  unfold turn
  rw [hn, wr_cut, show (i 1).val + 1 - 2 = (i 1).val - 1 by omega]
  iintro ⟨Hc, Hf, Hi⟩
  ihave ⟨Ho, Hc⟩ := pick $$ Hc
  isplitl [Ho]; · iexact Ho
  isplitl [Hf]; · iexact Hf
  iintro Hw
  isplitl [Hw Hc]
  · iapply Hc; iexact Hw
  iexact Hi

/-- A middle pass adds into its column. -/
theorem acc_turn (hq : 0 < (i 0).val) (hq' : (i 0).val < 3) :
    bigSep Finset.univ (accs m c (cnt i)) ⊢ iprop(acc c (i 1).val (tile 8192 (accVal m c (i 1) (min ((i 0).val - 1) 2)))
      ∗ (acc c (i 1).val (tile 8192 (k0_pay1 (prod m c (i 0) (i 1)) (accVal m c (i 1) (min ((i 0).val - 1) 2)))) -∗ bigSep Finset.univ (accs m c (cnt i + 1)))) := by
  have hl := lt_j i
  have col := bigSep_univ_update (Φ := accs m c (cnt i)) (Ψ := accs m c (cnt i + 1)) (i 1 : Fin 4)
    (fun j hj => accs_other m c i (fun h => hj (Fin.ext h)) (by unfold cnt; omega))
  have e := accVal_succ m c (i 0) (i 1) hq hq'
  rw [accs_before m c (j := i 1) ((i 0).val - 1) (by unfold cnt; omega), accs_at m c (j := i 1) (i 0).val (by unfold cnt; omega), e] at col
  exact col

set_option maxHeartbeats 2000000 in
/-- The body at point `i`. -/
theorem run_body {Q : PUnit → sProp 𝕄} {G : sProp 𝕄} (hG : iprop(state m c (cnt i + 1) ∗ given m c i arg4 arg5 arg6 ∗ G) ⊢ Q ⟨⟩) :
    iprop((invs m κ ∗ levAts L lv ∗ state m c (cnt i) ∗ given m c i arg4 arg5 arg6) ∗ G)
      ⊢ WP c (cc0_body i (Memref.whole main_v5) (Memref.isWhole_whole _) xM (Memref.isWhole_whole _) arg4 harg4 arg5 harg5 arg6 harg6 oM (Memref.isWhole_whole _) accM (Memref.isWhole_whole _) xgM (Memref.isWhole_whole _) obM (Memref.isWhole_whole _) xsM (Memref.isWhole_whole _) stM (Memref.isWhole_whole _) cc0_scratch5 cc0_scratch6 cc0_scratch7 cc0_scratch8) Q := by
  simp only [cc0_body_eq_skeleton]; unfold cc0_body_skel
  simp only [Prog.lift, Prog.bind_op, Prog.bind_ret, Prog.pure_eq_ret]
  refine after6 m κ c i arg4 harg4 arg5 harg5 arg6 harg6 ?_
  intro a b hw v15 v31 z
  dsimp only
  have hlq := lt_q i
  have hlj := lt_j i
  -- the waits at the very end
  generalize hT : (dite (k0_cond7 i = 1#1) _ _ : Prog (TpuEff nD τ sig (Elt F) Λ₀ .tc) PUnit) = T
  have tail : iprop(invs m κ ∗ past m c i ∗ given m c i arg4 arg5 arg6 ∗ G) ⊢ WP c T Q := by
    rw [← hT]; clear hT
    by_cases h7 : k0_cond7 i = 1#1
    · rw [dif_pos h7]
      obtain ⟨hq, hj⟩ := (cond7_iff i).1 h7
      have hn : cnt i + 1 = 16 := by unfold cnt; omega
      unfold past work
      rw [hn, hq, show wr m c 16 = cut m c 4 2 from wr_cut m c 4, four (cut m c 4 2)]
      rw [cut_done m c (j := 0) (by decide) (by decide), cut_done m c (j := 1) (by decide) (by decide),
        cut_wrote m c (j := 2) (by decide) (by decide), cut_wrote m c (j := 3) (by decide) (by decide)]
      iintro ⟨#HI, ⟨⟨Hm, ⟨Hs0, Hs1, Hs2⟩, Hr, Ha, ⟨Hd0, Hd1, Hw2, Hw3⟩, -⟩, HO⟩, Hg, HG⟩
      iapply (wp_seq c)
      iapply (run5 m κ c i arg4 harg4 arg5 harg5 arg6 harg6 hw h7)
      isplitl [Hw2 Hw3 Hs0 Hs1 HO]
      · isplitr; · iexact HI
        isplitl [Hw2]; · iexact Hw2
        isplitl [Hw3]; · iexact Hw3
        iframe
      iintro ⟨Hd2, Hd3, Hf0, Hf1, Hp0, Hp1, HO⟩
      unfold sent
      icases Hs2 with ⟨Ha2, Hc2⟩
      iapply (wp_send_wait m κ c 2 (send_sem 2 rfl _ _)) $$ [HO Hc2 Ha2]
      · isplitr; · iexact HI
        iframe
      iintro ⟨HO, Hp2⟩
      iapply (wp_end_upd c)
      imod (close_up m κ c) $$ [Hm Hr Ha Hd0 Hd1 Hd2 Hd3 Hf0 Hf1 Hp0 Hp1 Hp2] with Hfin
      · isplitr; · iexact HI
        isplitl [Hm]; · iexact Hm
        isplitl [Hd0 Hd1 Hd2 Hd3]; · iframe
        isplitl [Hf0 Hf1]; · iframe
        isplitl [Hr]; · iexact Hr
        isplitl [Ha]; · iexact Ha
        isplitl [Hp0]; · iexact Hp0
        isplitl [Hp1]; · iexact Hp1
        iexact Hp2
      imodintro
      rw [hn, show state m c 16 = iprop(final m c ∗ ow c 0) from rfl] at hG
      iapply hG
      iframe
    · rw [dif_neg h7]
      have hn : cnt i + 1 ≠ 16 := fun e => h7 ((cond7_iff i).2 (by unfold cnt at e; omega))
      rw [state_of_pos m c (Nat.succ_ne_zero _) hn, arr_next] at hG
      iintro ⟨-, Hs, Hg, HG⟩
      iapply wp_end
      iapply hG
      unfold past
      isplitl [Hs]; · iexact Hs
      isplitl [Hg]; · iexact Hg
      iexact HG
  have hc4 := cond4_iff i
  have hc5 := cond5_iff i
  by_cases h5 : k0_cond5 i = 1#1
  · -- the last pass writes its column out
    have hq := hc5.1 h5
    rw [dif_neg (fun h => by have := hc4.1 h; omega), dif_pos h5, if_neg (by omega)]
    have hn : cnt i = 12 + (i 1).val := by unfold cnt; omega
    generalize hT' : (Prog.op (TpuEff.load accM _ _) _ : Prog (TpuEff nD τ sig (Elt F) Λ₀ .tc) PUnit) = T'
    have write : iprop(invs m κ ∗ (misc m c ∗ (sent c 0 ∗ sent c 1 ∗ sent c 2) ∗ bigSep Finset.univ (rcv m c ((i 0).val + 1)) ∗ bigSep Finset.univ (accs m c (cnt i)))
        ∗ turn m c i ((i 1).val - 1) ∗ ow c 0 ∗ given m c i arg4 arg5 arg6 ∗ G) ⊢ WP c T' Q := by
      rw [← hT']; clear hT'
      have col := bigSep_univ_update (Φ := accs m c (cnt i)) (Ψ := accs m c (cnt i + 1)) (i 1 : Fin 4)
        (fun j hj => by rw [accs_late m c (by omega), accs_late m c (by omega)])
      rw [accs_late m c (n := cnt i) (by omega), accs_late m c (n := cnt i + 1) (by omega)] at col
      have out := outBlk_at m c (i 0) (i 1) hq
      rw [accs_late m c (n := cnt i) (by omega)]
      iintro ⟨#HI, ⟨Hm, Hs, Hr, Ha⟩, Ht, HO, Hg, HG⟩
      ihave ⟨Hj, Ha⟩ := col $$ Ha
      iapply (wp_acc_load c (off13_eq i) (accVal m c (i 1) 2)) $$ [Hj]
      · iexact Hj
      iintro Hj
      ispecialize Ha $$ Hj
      ihave ⟨Ho, Hf, Ht⟩ := (turn_write m c i hq) $$ Ht
      unfold free
      icases Hf with ⟨Hb, Hv⟩
      iapply (wp_ob_any c (off14_eq i)) $$ [Hb]
      · iexact Hb
      iintro %u Hb
      iapply (wp_ob_store c (off14_eq i) (k0_pay2 (scale m c) (prod m c (i 0) (i 1)) (accVal m c (i 1) 2))) $$ [Hb]
      · iexact Hb
      iintro Hb
      iapply (wp_write c (par (i 1)) (i 1).val (k0_pay2 (scale m c) (prod m c (i 0) (i 1)) (accVal m c (i 1) 2)) (off16_eq i) (off17_eq i) (out_sem (par (i 1)) (off15_eq i) _ _)) $$ [Ho Hb Hv]
      · isplitl [Ho]; · iexact Ho
        isplitl [Hb]; · iexact Hb
        iexact Hv
      rw [out]
      iintro Hw
      ispecialize Ht $$ Hw
      icases Ht with ⟨Hc, Hi⟩
      iapply tail
      unfold past work
      rw [accs_late m c (n := cnt i + 1) (by omega)]
      isplitr; · iexact HI
      isplitr [Hg HG]
      · isplitr [HO]
        · isplitl [Hm]; · iexact Hm
          isplitl [Hs]; · iexact Hs
          isplitl [Hr]; · iexact Hr
          isplitl [Ha]; · iexact Ha
          isplitl [Hc]; · iexact Hc
          iexact Hi
        iexact HO
      isplitl [Hg]; · iexact Hg
      iexact HG
    by_cases h6 : k0_cond6 i = 1#1
    · rw [dif_pos h6]
      have hj := (cond6_iff i).1 h6
      unfold mid work
      iintro ⟨#HI, ⟨⟨Hm, Hs, Hr, Ha, Hc⟩, HO⟩, Hg, HG⟩
      ihave ⟨Hw, Ht⟩ := (turn_late m c i hq hj) $$ Hc
      iapply (wp_write_wait c (par (i 1)) ((i 1).val - 2) _ (out_sem (par (i 1)) (off10_eq i) _ _)) $$ [Hw HO]
      · iframe
      iintro ⟨Ho, Hb, Hv, HO⟩
      unfold free
      ispecialize Ht $$ [Ho Hb Hv]
      · isplitl [Ho]; · iexact Ho
        isplitl [Hb]; · iexact Hb
        iexact Hv
      iapply write
      isplitr; · iexact HI
      isplitl [Hm Hs Hr Ha]; · iframe
      isplitl [Ht]; · iexact Ht
      iframe
    · rw [dif_neg h6]
      have hj : (i 1).val < 2 := Nat.lt_of_not_le fun h => h6 ((cond6_iff i).2 h)
      unfold mid work
      iintro ⟨#HI, ⟨⟨Hm, Hs, Hr, Ha, Hc⟩, HO⟩, Hg, HG⟩
      ihave Ht := (turn_early m c i hq hj) $$ Hc
      iapply write
      isplitr; · iexact HI
      isplitl [Hm Hs Hr Ha]; · iframe
      isplitl [Ht]; · iexact Ht
      iframe
  · have hn : cnt i + 1 ≤ 12 := by
      have : (i 0).val ≠ 3 := fun h => h5 (hc5.2 h)
      unfold cnt; omega
    have keep : work m c ((i 0).val + 1) (cnt i + 1) (cnt i) = work m c ((i 0).val + 1) (cnt i + 1) (cnt i + 1) := by
      unfold work
      rw [wr_early m c hn, wr_early m c (by omega), idle_early c hn, idle_early c (by omega)]
    by_cases h4 : k0_cond4 i = 1#1
    · -- a middle pass adds into the accumulator
      obtain ⟨hq, hq'⟩ := hc4.1 h4
      rw [dif_pos h4, if_neg (by omega)]
      simp only [dif_neg h5]
      unfold past at tail
      rw [← keep] at tail
      unfold mid work
      unfold work at tail
      iintro ⟨#HI, ⟨⟨Hm, Hs, Hr, Ha, Hc⟩, HO⟩, Hg, HG⟩
      ihave ⟨Hj, Ha⟩ := (acc_turn m c i hq hq') $$ Ha
      iapply (wp_acc_load c (off9_eq i) (accVal m c (i 1) (min ((i 0).val - 1) 2))) $$ [Hj]
      · iexact Hj
      iintro Hj
      iapply (wp_acc_load c (off9_eq i) (accVal m c (i 1) (min ((i 0).val - 1) 2))) $$ [Hj]
      · iexact Hj
      iintro Hj
      iapply (wp_acc_store c (off9_eq i) (k0_pay1 (prod m c (i 0) (i 1)) (accVal m c (i 1) (min ((i 0).val - 1) 2)))) $$ [Hj]
      · iexists _; iexact Hj
      iintro Hj
      ispecialize Ha $$ Hj
      iapply tail
      isplitr; · iexact HI
      isplitr [Hg HG]
      · isplitr [HO]
        · isplitl [Hm]; · iexact Hm
          isplitl [Hs]; · iexact Hs
          isplitl [Hr]; · iexact Hr
          isplitl [Ha]; · iexact Ha
          iexact Hc
        iexact HO
      isplitl [Hg]; · iexact Hg
      iexact HG
    · have hq : (i 0).val = 0 := by
        have : ¬(0 < (i 0).val ∧ (i 0).val < 3) := fun h => h4 (hc4.2 h)
        have : (i 0).val ≠ 3 := fun h => h5 (hc5.2 h)
        omega
      rw [dif_neg h4, dif_neg h5, if_pos hq]
      unfold mid
      rw [keep]
      unfold past at tail
      exact tail

end Cert.AllToAll

end
-- ==== Proof.Table.lean ====
/-
  The prefetched table: the device's index, and where the weights' window lies for it.

  Before point `(q, j)` on device `c` the window is the block of rows `1024 (src c q)` on and columns `2048 j` on.
-/
module

public import proofs.«01_k».proof.Proof.Body
public import proofs.«01_k».proof.Proof.Gen.KernelIdeal.Regions

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- The table on device `c`. -/
def table : pre0.Contents (Elt F) := fun | 0 => fun _ => (me c : Elt F .i32)

theorem table_at : (table (F := F) c).at 0 (Rect.unit (s := S1) ![0] S1.size Facts₀.inb_S1_S1_0) Facts₀.numel1_S1 = me c := rfl

/-- Which block of the weights the window is at. -/
theorem block_at (i : grid0.Coords) :
    cc0_transform_1 Facts₀.inb_S1_S1_0 Facts₀.numel1_S1 (table (F := F) c) i = ![(src c (i 0)).val, (i 1).val] := by
  unfold cc0_transform_1
  rw [table_at]
  revert i c
  decide +kernel

theorem block_words : ∀ (p j : Fin 4) (h : ∀ a, ((![p.val, j.val] : Fin 2 → ℕ) a + 1) * S1024x2048.size a ≤ S4096x8192.size a),
    (Rect.block (s := S4096x8192) S1024x2048.size ![p.val, j.val] h).WholeWords (EltTy.packing .fp8e4m3) := by decide +kernel

/-- It is inside the array and made of whole words. -/
theorem table_ok : ok0 (table (F := F) c) := by
  intro i
  rw [block_at]
  have h0 := (src c (i 0)).isLt
  have h1 : (i 1).val < 4 := (i 1).isLt
  have e : nD = 4 := rfl
  refine ⟨fun a => ?_, Or.inr ?_⟩
  · fin_cases a
    · show ((src c (i 0)).val + 1) * 1024 ≤ 4096; omega
    · show ((i 1).val + 1) * 2048 ≤ 8192; omega
  · exact block_words (src c (i 0)) (i 1) _

/-- The admissible tables, device by device. -/
def adm (c : Dev nD) : (p : Fin 1) → (pcfgs (F := F) p).Adm := fun _ => ⟨table c, table_ok c⟩

/-- The host operations before the kernel leave the device's index in the table. -/
theorem V1_table : V1 m c main_v5 = fun _ => (me c : Elt F .i32) := by
  show StableHlo.after (hostOps0 c) (V0 m c) main_v5 = _
  generalize V0 m c = V
  unfold hostOps0
  after_results
  have h : (id (Host.remui (Host.divui (constantI S_ 32 c.word) (constantI S_ 32 1#32)) (constantI S_ 32 4#32)) : IVec S_ 32) = fun _ => me c := by
    funext x
    show IntOp.remui .host (IntOp.divui .host (Dev.word c) 1#32) 4#32 = me c
    revert c; decide
  rw [h]; rfl

end Cert.AllToAll

end
-- ==== Proof.Region.lean ====
/-
  The kernel's region: the proof data of its pipeline, and its body at every grid point from `run_body`.
-/
module

public import proofs.«01_k».proof.Proof.Table

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (c : Dev nD)

/-! ## The state between two points, and what is owed, apart -/

/-- What the device holds after `n` points, what it owes left out. -/
def hold (n : ℕ) : sProp 𝕄 :=
  if n = 0 then start m c else if n = 16 then final m c else work m c (arr n) n n

/-- What it owes after `n` points. -/
def due (n : ℕ) : CellTallies nD τ sig Unit := if n = 0 then O₀ c else 0

theorem state_eq (n : ℕ) : state m c n = iprop(hold m c n ∗ ow c (due c n)) := by
  unfold state hold due
  by_cases h : n = 0
  · simp only [if_pos h]
  · simp only [if_neg h]; split <;> rfl

/-- The pipeline's invariant after `n` points. -/
def inv (n : ℕ) : sProp 𝕄 := iprop(∃ κ, invs m κ ∗ levAts L lv ∗ hold m c n)

/-! ## The pipeline's proof data -/

abbrev cfgA : Pipeline.Cfg sig Λ₀ := cfg0 (adm (F := F) c 0)

def dats (_ : Fin 1) (c : Dev nD) : Dat τ (Elt F) Unit ℕ UU ℕ (cfgA (F := F) c) c where
  A w := m (((cfgA (F := F) c).win w).arr.view.loc (c : Thread nD τ))
  after w t := match w with
    | ⟨0, _⟩ => wblk m c (grid0.coords t 0) (grid0.coords t 1)
    | ⟨1, _⟩ => m ((c : Thread nD τ).loc main_arg2)
    | ⟨2, _⟩ => m ((c : Thread nD τ).loc main_arg3)
  Φ n := inv m c n.val
  q _ := fullShare
  owed n := due c n.val

theorem after_0 (t : Fin (cfgA (F := F) c).N) : (dats m 0 c).after (0 : Fin 3) t = wblk m c (grid0.coords t 0) (grid0.coords t 1) := by dsimp only [dats]
theorem after_1 (t : Fin (cfgA (F := F) c).N) : (dats m 0 c).after (1 : Fin 3) t = m ((c : Thread nD τ).loc main_arg2) := by dsimp only [dats]
theorem after_2 (t : Fin (cfgA (F := F) c).N) : (dats m 0 c).after (2 : Fin 3) t = m ((c : Thread nD τ).loc main_arg3) := by dsimp only [dats]

/-- The weights' block before a point. -/
theorem block_0 (t : Fin (cfgA (F := F) c).N) : (dats m 0 c).blockOf (0 : Fin 3) t = wblk m c (grid0.coords t 0) (grid0.coords t 1) := by
  funext x
  unfold Dat.blockOf
  rw [View.read_apply]
  have h := block_at (F := F) c (grid0.coords t)
  have h0 : cc0_transform_1 Facts₀.inb_S1_S1_0 Facts₀.numel1_S1 (table (F := F) c) (grid0.coords t) 0 = (src c (grid0.coords t 0)).val := congrFun h 0
  have h1 : cc0_transform_1 Facts₀.inb_S1_S1_0 Facts₀.numel1_S1 (table (F := F) c) (grid0.coords t) 1 = (grid0.coords t 1).val := congrFun h 1
  refine congrArg (m ((c : Thread nD τ).loc main_arg1)) ?_
  funext a
  apply Fin.ext
  fin_cases a
  · show cc0_transform_1 Facts₀.inb_S1_S1_0 Facts₀.numel1_S1 (table (F := F) c) (grid0.coords t) 0 * 1024 + 1 * (x 0).val = 1024 * (src c (grid0.coords t 0)).val + (x 0).val
    rw [h0]; omega
  · show cc0_transform_1 Facts₀.inb_S1_S1_0 Facts₀.numel1_S1 (table (F := F) c) (grid0.coords t) 1 * 2048 + 1 * (x 1).val = 2048 * (grid0.coords t 1).val + (x 1).val
    rw [h1]; omega
theorem block_1 (t : Fin (cfgA (F := F) c).N) : (dats m 0 c).blockOf (1 : Fin 3) t = m ((c : Thread nD τ).loc main_arg2) := by
  funext x
  unfold Dat.blockOf
  rw [View.read_apply]
  refine congrArg (m ((c : Thread nD τ).loc main_arg2)) ?_
  funext a
  apply Fin.ext
  fin_cases a
  show 0 * 1 + 1 * (x 0).val = (x 0).val
  omega
theorem block_2 (t : Fin (cfgA (F := F) c).N) : (dats m 0 c).blockOf (2 : Fin 3) t = m ((c : Thread nD τ).loc main_arg3) := by
  funext x
  unfold Dat.blockOf
  rw [View.read_apply]
  refine congrArg (m ((c : Thread nD τ).loc main_arg3)) ?_
  funext a
  apply Fin.ext
  fin_cases a
  show 0 * 1 + 1 * (x 0).val = (x 0).val
  omega

theorem fetched_0 (t : Fin (cfgA (F := F) c).N) (d) : (dats m 0 c).fetched (0 : Fin 3) t d = (dats m 0 c).blockOf (0 : Fin 3) t := by
  unfold Dat.fetched; generalize (dats m 0 c).blockOf (0 : Fin 3) t = g; rfl
theorem fetched_1 (t : Fin (cfgA (F := F) c).N) (d) : (dats m 0 c).fetched (1 : Fin 3) t d = (dats m 0 c).blockOf (1 : Fin 3) t := by
  unfold Dat.fetched; generalize (dats m 0 c).blockOf (1 : Fin 3) t = g; rfl
theorem fetched_2 (t : Fin (cfgA (F := F) c).N) (d) : (dats m 0 c).fetched (2 : Fin 3) t d = (dats m 0 c).blockOf (2 : Fin 3) t := by
  unfold Dat.fetched; generalize (dats m 0 c).blockOf (2 : Fin 3) t = g; rfl

theorem before_0 (t : Fin (cfgA (F := F) c).N) (d) : (dats m 0 c).before (0 : Fin 3) t d = wblk m c (grid0.coords t 0) (grid0.coords t 1) := by
  rw [Dat.before_in_eq_fetched _ _ rfl (fun _ => rfl) (fun _ _ _ => rfl) (fun t => ?_) t d, fetched_0, block_0]
  rw [block_0, after_0]; rfl
theorem before_1 (t : Fin (cfgA (F := F) c).N) (d) : (dats m 0 c).before (1 : Fin 3) t d = m ((c : Thread nD τ).loc main_arg2) := by
  rw [Dat.before_in_eq_fetched _ _ rfl (fun _ => rfl) (fun _ _ _ => rfl) (fun t => ?_) t d, fetched_1, block_1]
  rw [block_1, after_1]; rfl
theorem before_2 (t : Fin (cfgA (F := F) c).N) (d) : (dats m 0 c).before (2 : Fin 3) t d = m ((c : Thread nD τ).loc main_arg3) := by
  rw [Dat.before_in_eq_fetched _ _ rfl (fun _ => rfl) (fun _ _ _ => rfl) (fun t => ?_) t d, fetched_2, block_2]
  rw [block_2, after_2]; rfl

/-! ## The body at a point -/

theorem cnt_coords (t : Fin grid0.N) : cnt (grid0.coords t) = t.val := by
  rcases fin_N0 t with rfl | rfl | rfl | rfl | rfl | rfl | rfl | rfl | rfl | rfl | rfl | rfl | rfl | rfl | rfl | rfl <;> decide +kernel

theorem defs_tc : (defs₀ (F := F)) .tc (cfgA (F := F) c).body
    = fun a => cc0_body (grid0.coords a.1) (Memref.whole main_v5) (Memref.isWhole_whole _) xM (Memref.isWhole_whole _)
        (spec0_0.stage (a.2 0)) (hstage0_0 ((a.2 0).cast nbuf0_0)) (spec0_1.stage (a.2 1)) (hstage0_1 ((a.2 1).cast nbuf0_1))
        (spec0_2.stage (a.2 2)) (hstage0_2 ((a.2 2).cast nbuf0_2)) oM (Memref.isWhole_whole _) accM (Memref.isWhole_whole _) xgM (Memref.isWhole_whole _)
        obM (Memref.isWhole_whole _) xsM (Memref.isWhole_whole _) stM (Memref.isWhole_whole _) cc0_scratch5 cc0_scratch6 cc0_scratch7 cc0_scratch8 := rfl

theorem body_obligation : Pipeline.BodyObligation (dats (F := F) m 0 c) (defs₀ (F := F)) 𝒱₀ () Set.univ := fun t => by
  rw [bigSep_W0, bigSep_W0]
  dsimp only
  simp only [before_0, before_1, before_2, after_0, after_1, after_2]
  rw [show (dats m 0 c).Φ t.castSucc = inv m c t.val from rfl, show (dats m 0 c).Φ t.succ = inv m c (t.val + 1) from rfl]
  unfold Dat.owesAt Pipeline.owesWithin
  rw [show (dats m 0 c).owed t.castSucc = due c t.val from rfl, show (dats m 0 c).owed t.succ = due c (t.val + 1) from rfl, defs_tc c]
  have hn := cnt_coords t
  refine BI.Entails.trans (Q := iprop(∃ κ, (invs m κ ∗ levAts L lv ∗ state m c (cnt (grid0.coords t)) ∗ given m c (grid0.coords t)
    (spec0_0.stage ((cfgA (F := F) c).slots t 0)) (spec0_1.stage ((cfgA (F := F) c).slots t 1)) (spec0_2.stage ((cfgA (F := F) c).slots t 2)))
      ∗ (invs m κ ∗ levAts L lv))) ?_ (Laws.exists_elim fun κ => run_body m κ c (grid0.coords t) _ _ _ _ _ _ ?_)
  · rw [hn, state_eq]
    unfold inv given ow
    show (_ : sProp 𝕄) ⊢ _
    iintro ⟨⟨%κ, #HI, #HL, Hh⟩, ⟨%W, -, HO⟩, ⟨%d0, H0⟩, ⟨%d1, H1⟩, ⟨%d2, H2⟩⟩
    iexists κ
    isplitl [Hh HO H0 H1 H2]
    · isplitr; · iexact HI
      isplitr; · iexact HL
      isplitl [Hh HO]
      · isplitl [Hh]; · iexact Hh
        iexists W; iexact HO
      isplitl [H0]; · iexact H0
      isplitl [H1]; · iexact H1
      iexact H2
    isplitr; · iexact HI
    iexact HL
  · rw [hn, state_eq]
    unfold inv given ow
    iintro ⟨⟨Hh, %W, HO⟩, ⟨H0, H1, H2⟩, HI, HL⟩
    isplitl [HI HL Hh]
    · iexists κ
      iframe
    isplitl [HO]
    · iexists W
      isplitr; · ipureintro; exact fun _ _ => Or.inl trivial
      iexact HO
    isplitl [H0]; · iexact H0
    isplitl [H1]; · iexact H1
    iexact H2

end Cert.AllToAll

end
-- ==== Proof.Pieces.lean ====
/-
  Buffers in pieces: each scratch buffer is its slots (or its column blocks), cut apart at entry and joined at exit;
  the result's column blocks, each at its block, are the result at one array.
-/
module

public import proofs.«01_k».proof.Proof.Region
public import Idealize.ShloMosaic.Lib.Ring.FamCut

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (c : Dev nD)

/-! ## Any buffer -/

section General

variable {ℓ : Loc nD τ sig} {n : ℕ} (I : Fin n → Finset (Idx ℓ)) (hd : ∀ k k', k ≠ k' → Disjoint (I k) (I k'))

include hd in
/-- A buffer at some contents, cut into pieces at some contents. -/
theorem carve : (iprop(∃ f, ℓ ↦{fullShare} f) : sProp 𝕄) ⊢ bigSep Finset.univ fun k => iprop(∃ f, ℓ ↦[I k]{fullShare} f) :=
  (Ring.fam_split_ex I hd).trans Laws.sep_elim_left

variable (hc : ∀ i, ∃ k, i ∈ I k)

include hc in
theorem cover : Finset.univ.biUnion I = Finset.univ :=
  Finset.eq_univ_of_forall fun i => Finset.mem_biUnion.mpr ((hc i).imp fun k h => ⟨Finset.mem_univ k, h⟩)

include hd hc in
/-- Pieces that cover the buffer, each at some contents: the buffer at some contents. -/
theorem glue (f₀ : Buf (Elt F) ℓ) : (bigSep Finset.univ fun k => iprop(∃ f, ℓ ↦[I k]{fullShare} f)) ⊢ (iprop(∃ f, ℓ ↦{fullShare} f) : sProp 𝕄) := by
  have : Nonempty (Buf (Elt F) ℓ) := ⟨f₀⟩
  refine BI.Entails.trans (bigSep_exists_pi Finset.univ fun k (f : Buf (Elt F) ℓ) => (ℓ ↦[I k]{fullShare} f : sProp 𝕄)) ?_
  show (_ : sProp 𝕄) ⊢ _
  iintro ⟨%fs, H⟩
  ihave H' := (pointsTo_biUnion_join Finset.univ I fs f₀ fun b _ b' _ h => hd b b' h) $$ H
  rw [cover I hc]
  icases H' with ⟨%g, -, H⟩
  iexists g
  iexact H

include hd hc in
/-- Pieces that cover the buffer, each agreeing with `g`: the buffer at `g`. -/
theorem glue_at (fs : Fin n → Buf (Elt F) ℓ) (g : Buf (Elt F) ℓ) (h : ∀ k, ∀ i ∈ I k, fs k i = g i) :
    (bigSep Finset.univ fun k => (ℓ ↦[I k]{fullShare} fs k)) ⊢ (ℓ ↦{fullShare} g : sProp 𝕄) := by
  rw [bigSep_congr fun k _ => pointsTo_congr (h k), ← pointsTo_biUnion Finset.univ I fun b _ b' _ h => hd b b' h, cover I hc]

end General

theorem slot_disj {n b d : ℕ} (k k' : Fin n) (h : k ≠ k') : Disjoint (slot (a := n) (b := b) (d := d) k.val) (slot k'.val) := by
  rw [Finset.disjoint_left]
  intro i h1 h2
  rw [mem_slot] at h1 h2
  exact h (Fin.ext (h1.symm.trans h2))
theorem slot_cover {n b d : ℕ} (i : (⟨3, ![n, b, d]⟩ : Shape).Idx) : ∃ k : Fin n, i ∈ slot (a := n) (b := b) (d := d) k.val :=
  ⟨i 0, mem_slot.mpr rfl⟩
theorem cols_disj {a b : ℕ} (k k' : Fin 4) (h : k ≠ k') : Disjoint (cols (a := a) (b := b) k.val) (cols k'.val) := by
  rw [Finset.disjoint_left]
  intro i h1 h2
  rw [mem_cols] at h1 h2
  exact h (Fin.ext (h1.symm.trans h2))
theorem cols_cover {a : ℕ} (i : (⟨2, ![a, 8192]⟩ : Shape).Idx) : ∃ k : Fin 4, i ∈ cols (a := a) (b := 8192) k.val :=
  ⟨⟨(i 1).val / 2048, by have h : (i 1).val < 8192 := (i 1).isLt; omega⟩, mem_cols.mpr rfl⟩

/-! ## Every device, listed from `c` -/

theorem ring_list (Φ : Dev nD → sProp 𝕄) : bigSep Finset.univ Φ = iprop(Φ (src c 0) ∗ Φ (far 1 c) ∗ Φ (far 2 c) ∗ Φ (far 3 c)) :=
  bigSep_univ_eq_bigSepL [src c 0, far 1 c, far 2 c, far 3 c] (by revert c; decide) (by revert c; decide) Φ

/-- Every pass takes its block from a different device. -/
theorem src_all (Φ : Dev nD → sProp 𝕄) : (bigSep Finset.univ fun q : Fin 4 => Φ (src c q)) = bigSep Finset.univ Φ := by
  have hb : Function.Bijective (src c) := by revert c; decide
  exact (bigSep_univ_equiv (Equiv.ofBijective (src c) hb) Φ).symm

/-! ## The scratch buffers -/

theorem three (Φ : Fin 3 → sProp 𝕄) : bigSep Finset.univ Φ = iprop(Φ 0 ∗ Φ 1 ∗ Φ 2) :=
  bigSep_univ_eq_bigSepL [0, 1, 2] (by decide) (by decide) Φ

abbrev whole (b : Ref sig .tc) : sProp 𝕄 := iprop(∃ f, ((c : Thread nD τ).loc b) ↦{fullShare} f)

theorem acc_cut : whole (F := F) c cc0_scratch0 ⊢ bigSep Finset.univ fun j : Fin 4 => iprop(∃ f, acc (F := F) c j.val f) :=
  carve (ℓ := (c : Thread nD τ).loc cc0_scratch0) (fun j : Fin 4 => cols (a := 1024) (b := 8192) j.val) cols_disj
include m in
theorem acc_glue : (bigSep Finset.univ fun j : Fin 4 => iprop(∃ f, acc (F := F) c j.val f)) ⊢ whole (F := F) c cc0_scratch0 :=
  glue (ℓ := (c : Thread nD τ).loc cc0_scratch0) (fun j : Fin 4 => cols (a := 1024) (b := 8192) j.val) cols_disj cols_cover (m _)

theorem xg_cut : whole (F := F) c cc0_scratch1 ⊢ bigSep Finset.univ fun s : Fin 4 => iprop(∃ f, xg (F := F) c s.val f) :=
  carve (ℓ := (c : Thread nD τ).loc cc0_scratch1) (fun j : Fin 4 => slot (a := 4) (b := 1024) (d := 1024) j.val) slot_disj
include m in
theorem xg_glue : (bigSep Finset.univ fun s : Fin 4 => iprop(∃ f, xg (F := F) c s.val f)) ⊢ whole (F := F) c cc0_scratch1 :=
  glue (ℓ := (c : Thread nD τ).loc cc0_scratch1) (fun j : Fin 4 => slot (a := 4) (b := 1024) (d := 1024) j.val) slot_disj slot_cover (m _)

theorem ob_cut : whole (F := F) c cc0_scratch2 ⊢ bigSep Finset.univ fun s : Fin 2 => iprop(∃ f, ob (F := F) c s.val f) :=
  carve (ℓ := (c : Thread nD τ).loc cc0_scratch2) (fun j : Fin 2 => slot (a := 2) (b := 1024) (d := 2048) j.val) slot_disj
include m in
theorem ob_glue : (bigSep Finset.univ fun s : Fin 2 => iprop(∃ f, ob (F := F) c s.val f)) ⊢ whole (F := F) c cc0_scratch2 :=
  glue (ℓ := (c : Thread nD τ).loc cc0_scratch2) (fun j : Fin 2 => slot (a := 2) (b := 1024) (d := 2048) j.val) slot_disj slot_cover (m _)

theorem xs_cut : whole (F := F) c cc0_scratch3 ⊢ bigSep Finset.univ fun s : Fin 3 => iprop(∃ f, xs (F := F) c s.val f) :=
  carve (ℓ := (c : Thread nD τ).loc cc0_scratch3) (fun j : Fin 3 => slot (a := 3) (b := 1024) (d := 1024) j.val) slot_disj
include m in
theorem xs_glue : (bigSep Finset.univ fun s : Fin 3 => iprop(∃ f, xs (F := F) c s.val f)) ⊢ whole (F := F) c cc0_scratch3 :=
  glue (ℓ := (c : Thread nD τ).loc cc0_scratch3) (fun j : Fin 3 => slot (a := 3) (b := 1024) (d := 1024) j.val) slot_disj slot_cover (m _)

theorem st_cut : whole (F := F) c cc0_scratch4 ⊢ bigSep Finset.univ fun s : Fin 2 => iprop(∃ f, st (F := F) c s.val f) :=
  carve (ℓ := (c : Thread nD τ).loc cc0_scratch4) (fun j : Fin 2 => slot (a := 2) (b := 1024) (d := 1024) j.val) slot_disj
include m in
theorem st_glue : (bigSep Finset.univ fun s : Fin 2 => iprop(∃ f, st (F := F) c s.val f)) ⊢ whole (F := F) c cc0_scratch4 :=
  glue (ℓ := (c : Thread nD τ).loc cc0_scratch4) (fun j : Fin 2 => slot (a := 2) (b := 1024) (d := 1024) j.val) slot_disj slot_cover (m _)

/-! ## The result -/

theorem out_cut : whole (F := F) c main_v6 ⊢ bigSep Finset.univ (raw (F := F) c) :=
  carve (ℓ := (c : Thread nD τ).loc main_v6) (fun j : Fin 4 => cols (a := 1024) (b := 8192) j.val) cols_disj

/-- The column block of a result's index. -/
def colOf (i : S1024x8192.Idx) : Fin 4 := ⟨(i 1).val / 2048, by have h : (i 1).val < 8192 := (i 1).isLt; omega⟩

/-- Device `c`'s result: column block `j` is block `j`. -/
def result : S1024x8192.Idx → Elt F .bf16 := fun i => tile 8192 (flat (outBlk m c (colOf i))) i

theorem out_glue : bigSep Finset.univ (done m c) ⊢ (((c : Thread nD τ).loc main_v6) ↦{fullShare} result m c : sProp 𝕄) :=
  glue_at (ℓ := (c : Thread nD τ).loc main_v6) (fun j : Fin 4 => cols (a := 1024) (b := 8192) j.val) cols_disj cols_cover
    (fun j => tile 8192 (flat (outBlk m c j))) (result m c) fun j i hi => by
      have e : colOf i = j := Fin.ext (mem_cols.mp hi)
      show _ = tile 8192 (flat (outBlk m c (colOf i))) i
      rw [e]

end Cert.AllToAll

end
-- ==== Proof.Entry.lean ====
/-
  The region's four entailments: what the launch dealt a device becomes the pipeline's invariant before the first
  point, and the invariant after the last gives the result, every buffer and every counter back.
-/
module

public import proofs.«01_k».proof.Proof.Pieces
public import proofs.«01_k».proof.Proof.Gen.KernelIdeal.Regions
public import Idealize.ShloMosaic.Lib.Rounds.Family

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (c : Dev nD)

/-! ## The kernel's own semaphores -/

/-- The send, receive, staging and write-back semaphores. -/
def osem (k : Fin 11) : SemLoc sig := .dma ⟨4 + k.val, by have := k.isLt; show 4 + k.val < 15; omega⟩

theorem osem_facts : Pipeline.OwnSemFacts spec0 osem := by decide

/-- Those no cell of the protocol uses. -/
def locals : sProp 𝕄 :=
  iprop((semVal ((c : Thread nD τ), .dma (stageS 0)) 0 ∗ semVal ((c : Thread nD τ), .dma (stageS 1)) 0)
    ∗ semVal ((c : Thread nD τ), .dma (outS 0)) 0 ∗ semVal ((c : Thread nD τ), .dma (outS 1)) 0)

theorem own_list : (Pipeline.ownSems0 osem c : sProp 𝕄)
    = iprop(semVal (sendCell c 0) 0 ∗ semVal (sendCell c 1) 0 ∗ semVal (sendCell c 2) 0
      ∗ semVal (recvCell c 0) 0 ∗ semVal (recvCell c 1) 0 ∗ semVal (recvCell c 2) 0 ∗ semVal (recvCell c 3) 0
      ∗ semVal ((c : Thread nD τ), .dma (stageS 0)) 0 ∗ semVal ((c : Thread nD τ), .dma (stageS 1)) 0
      ∗ semVal ((c : Thread nD τ), .dma (outS 0)) 0 ∗ semVal ((c : Thread nD τ), .dma (outS 1)) 0) :=
  bigSep_univ_eq_bigSepL [0, 1, 2, 3, 4, 5, 6, 7, 8, 9, 10] (by decide) (by decide) _

theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- Something of every protocol cell, sends and receives apart. -/
theorem cells_apart (Φ : GSem nD τ sig → sProp 𝕄) : (bigSep Finset.univ fun k : Fin 7 => Φ ((c : Thread nD τ), ownS k))
    ⊣⊢ iprop((Φ (sendCell c 0) ∗ Φ (sendCell c 1) ∗ Φ (sendCell c 2)) ∗ bigSep Finset.univ fun s : Dev nD => Φ (recvCell c s)) := by
  rw [seven, show (bigSep Finset.univ fun s : Dev nD => Φ (recvCell c s)) = iprop(Φ (recvCell c 0) ∗ Φ (recvCell c 1) ∗ Φ (recvCell c 2) ∗ Φ (recvCell c 3)) from
    four (fun s : Fin 4 => Φ (recvCell c s))]
  show iprop(Φ (sendCell c 0) ∗ Φ (sendCell c 1) ∗ Φ (sendCell c 2) ∗ Φ (recvCell c 0) ∗ Φ (recvCell c 1) ∗ Φ (recvCell c 2) ∗ Φ (recvCell c 3)) ⊣⊢ _
  constructor
  · iintro ⟨H0, H1, H2, H3⟩
    isplitr [H3]
    · isplitl [H0]; · iexact H0
      isplitl [H1]; · iexact H1
      iexact H2
    iexact H3
  · iintro ⟨⟨H0, H1, H2⟩, H3⟩
    isplitl [H0]; · iexact H0
    isplitl [H1]; · iexact H1
    isplitl [H2]; · iexact H2
    iexact H3

/-- The counters at entry, those of the protocol apart. -/
theorem own_split : (Pipeline.ownSems0 osem c : sProp 𝕄) ⊢ iprop((bigSep Finset.univ fun k : Fin 7 => semVal ((c : Thread nD τ), ownS k) 0) ∗ locals c) := by
  rw [own_list]
  unfold locals
  rw [seven]
  show (_ : sProp 𝕄) ⊢ iprop((semVal (sendCell c 0) 0 ∗ semVal (sendCell c 1) 0 ∗ semVal (sendCell c 2) 0
      ∗ semVal (recvCell c 0) 0 ∗ semVal (recvCell c 1) 0 ∗ semVal (recvCell c 2) 0 ∗ semVal (recvCell c 3) 0) ∗ _)
  iintro ⟨H0, H1, H2, H3, H4, H5, H6, H7, H8, H9⟩
  iframe

/-- The counters at exit. -/
theorem own_join : iprop((semVal (sendCell c 0) 0 ∗ semVal (sendCell c 1) 0 ∗ semVal (sendCell c 2) 0)
      ∗ (bigSep Finset.univ fun s : Dev nD => semVal (recvCell c s) 0) ∗ locals c) ⊢ (Pipeline.ownSems0 osem c : sProp 𝕄) := by
  rw [own_list, show (bigSep Finset.univ fun s : Dev nD => (semVal (recvCell c s) 0 : sProp 𝕄)) = iprop(semVal (recvCell c 0) 0 ∗ semVal (recvCell c 1) 0 ∗ semVal (recvCell c 2) 0 ∗ semVal (recvCell c 3) 0) from
    four (fun s : Fin 4 => semVal (recvCell c s) 0)]
  unfold locals
  iintro ⟨⟨H0, H1, H2⟩, ⟨H3, H4, H5, H6⟩, ⟨H7, H8⟩, H9⟩
  iframe

/-! ## Opening the protocol's dormant cells -/

theorem open_up (κ : GSem nD τ sig → ℕ) :
    iprop(invs m κ ∗ (bigSep Finset.univ fun k : Fin 7 => openTok ER ((c : Thread nD τ), ownS k)) ∗ bigSep Finset.univ fun k : Fin 7 => semVal ((c : Thread nD τ), ownS k) 0)
      ⊢ (|={Set.univ}=> iprop((bigSep Finset.univ fun k : Fin 7 => iprop(atPos ER ((c : Thread nD τ), ownS k) 0 ∅ 0 ∗ reached ER ((c : Thread nD τ), ownS k) 0))) : sProp 𝕄) := by
  have open_cells := cells_open ER (Rd (F := F) m) (Finset.univ : Finset (Fin 7)) (fun k => ((c : Thread nD τ), ownS k)) (fun k => κ ((c : Thread nD τ), ownS k)) (Es := Set.univ)
    fun _ _ => Set.mem_univ _
  have all : invs m κ ⊢ bigSep Finset.univ fun k : Fin 7 => cellInv ER (Rd m) (κ ((c : Thread nD τ), ownS k)) ((c : Thread nD τ), ownS k) :=
    BI.bigSep_intro_persistent fun k _ => inv_of m κ (Finset.mem_union_right _ (mem_dorm c k))
  rw [bigSep_sep'] at open_cells
  iintro ⟨HI, HT, HV⟩
  ihave HI := all $$ HI
  iapply open_cells
  isplitr [HV]
  · isplitl [HI]; · iexact HI
    iexact HT
  iexact HV

/-! ## What the launch deals, and what enters the invariant -/

/-- The duties device `c` will discharge: its own copies' returns, its signals, its landings. -/
def tokens : sProp 𝕄 :=
  iprop((dutyTok ER (sendCell c 0) 0 c ∗ dutyTok ER (sendCell c 1) 0 c ∗ dutyTok ER (sendCell c 2) 0 c)
    ∗ (dutyTok ER (barCell (far 1 c)) 0 c ∗ dutyTok ER (barCell (far 2 c)) 0 c ∗ dutyTok ER (barCell (far 3 c)) 0 c)
    ∗ (dutyTok ER (recvCell (far 1 c) c) 0 c ∗ dutyTok ER (recvCell (far 2 c) c) 0 c ∗ dutyTok ER (recvCell (far 3 c) c) 0 c))

/-- What device `c` is dealt: its barrier's start, the credits its peers owe it, the keys of its own cells, its duties. -/
def dealt : sProp 𝕄 :=
  iprop((atPos ER (barCell c) 0 ∅ 0 ∗ cred (tallyAt (barCell c) () 3))
    ∗ (cred (tallyAt (recvCell c (far 1 c)) () N) ∗ cred (tallyAt (recvCell c (far 2 c)) () N) ∗ cred (tallyAt (recvCell c (far 3 c)) () N))
    ∗ (bigSep Finset.univ fun k : Fin 7 => openTok ER ((c : Thread nD τ), ownS k))
    ∗ tokens c)

/-- The thread state beside the buffers, until the region. -/
def pend : sProp 𝕄 := iprop((∃ κ, invs m κ) ∗ dealt c ∗ ow c (O₀ c))

/-- What enters the invariant beside the table and the scratch buffers. -/
def primed : sProp 𝕄 :=
  iprop(xAt m c fullShare ∗ bigSep Finset.univ (raw (F := F) c) ∗ locals c
    ∗ (atPos ER (barCell c) 0 ∅ 0 ∗ cred (tallyAt (barCell c) () 3))
    ∗ bigSep Finset.univ (rcv₀ (F := F) c)
    ∗ (reached ER (recvCell c (far 1 c)) 0 ∗ reached ER (recvCell c (far 2 c)) 0 ∗ reached ER (recvCell c (far 3 c)) 0)
    ∗ (atPos ER (sendCell c 0) 0 ∅ 0 ∗ atPos ER (sendCell c 1) 0 ∅ 0 ∗ atPos ER (sendCell c 2) 0 ∅ 0)
    ∗ (reached ER (sendCell c 0) 0 ∗ reached ER (sendCell c 1) 0 ∗ reached ER (sendCell c 2) 0)
    ∗ tokens c)

def enter : sProp 𝕄 := iprop(∃ κ, invs m κ ∗ levAts L lv ∗ primed m c)
def leave : sProp 𝕄 := iprop(xAt m c fullShare ∗ bigSep Finset.univ (done m c) ∗ semVal (barCell c) 0)

theorem rcv₀_list : bigSep Finset.univ (rcv₀ (F := F) c)
    = iprop(atPos ER (recvCell c (src c 0)) 0 ∅ 0 ∗ (cred (tallyAt (recvCell c (far 1 c)) () N) ∗ atPos ER (recvCell c (far 1 c)) 0 ∅ 0)
      ∗ (cred (tallyAt (recvCell c (far 3 c)) () N) ∗ atPos ER (recvCell c (far 3 c)) 0 ∅ 0)
      ∗ (cred (tallyAt (recvCell c (far 2 c)) () N) ∗ atPos ER (recvCell c (far 2 c)) 0 ∅ 0)) := by
  rw [four]; rfl

/-! ## Entry -/

/-- Every buffer the host holds and no window's array. -/
theorem rest_list (V : (b : Ref sig .tc) → Buf (Elt F) ((c : Thread nD τ).loc b)) : (Pipeline.unscopedRest spec0 c V : sProp 𝕄)
    = iprop((((c : Thread nD τ).loc main_arg0) ↦{fullShare} V main_arg0) ∗ (((c : Thread nD τ).loc main_v5) ↦{fullShare} V main_v5)
      ∗ (((c : Thread nD τ).loc main_v6) ↦{fullShare} V main_v6) ∗ (((c : Thread nD τ).loc main_c) ↦{fullShare} V main_c) ∗ (((c : Thread nD τ).loc main_c_0) ↦{fullShare} V main_c_0)
      ∗ (((c : Thread nD τ).loc main_v1) ↦{fullShare} V main_v1) ∗ (((c : Thread nD τ).loc main_v2) ↦{fullShare} V main_v2)
      ∗ (((c : Thread nD τ).loc main_v3) ↦{fullShare} V main_v3) ∗ (((c : Thread nD τ).loc main_v4) ↦{fullShare} V main_v4)) := by
  unfold Pipeline.unscopedRest
  exact bigSep_eq_bigSepL_of_eq [main_arg0, main_v5, main_v6, main_c, main_c_0, main_v1, main_v2, main_v3, main_v4] (by decide) (by decide) _

theorem pref_eq : (Pipeline.prefHeld pre0 c (fun _ => fullShare) (adm (F := F) c 0).1 : sProp 𝕄) = tbl c := by
  unfold Pipeline.prefHeld
  rw [bigSep_univ_of_subsingleton (0 : Fin 1)]
  rfl

/-- The windows' arrays are at their launch contents when the region is entered. -/
theorem arrays_at (w : Fin 3) : (dats (F := F) m 0 c).A w = V1 m c (Pipeline.arrRef spec0 w) := by
  fin_cases w
  · exact (V1_of m c main_arg1 (by decide)).symm
  · exact (V1_of m c main_arg2 (by decide)).symm
  · exact (V1_of m c main_arg3 (by decide)).symm

/-- The buffers at entry: the windows' arrays, `x`, the table, the result's columns. -/
theorem buffers : StableHlo.held (c : Thread nD τ) (Pipeline.ucRefs τ sig) (V1 m c)
    ⊢ (iprop((dats m 0 c).arrays ((dats m 0 c).arrAt · 0) ∗ tbl c ∗ xAt m c fullShare ∗ bigSep Finset.univ (raw (F := F) c)) : sProp 𝕄) := by
  rw [← Pipeline.unscopedBufs_held (Ix := Unit) (Name := ℕ) (U := UU) (Lvl := ℕ) c (V1 m c)]
  have split := Pipeline.PerCore.arrays_of_unscopedBufs (pcfgs (F := F)) adm (dats m) (p := (0 : Fin 1)) (launch0 (F := F)).win (launch0 (F := F)).arr_whole c
    (fun w => (dats m 0 c).share_full (fun _ => rfl) w) (fun b => V1 m c b) (arrays_at m c)
  refine BI.Entails.trans split ?_
  rw [rest_list, V1_table, V1_of m c main_arg0 (by decide)]
  show (_ : sProp 𝕄) ⊢ _
  iintro ⟨HA, Hx, Ht, Ho, -⟩
  isplitl [HA]; · iexact HA
  isplitl [Ht]; · unfold tbl; iexact Ht
  isplitl [Hx]; · iexact Hx
  iapply (out_cut c)
  iexists _
  iexact Ho

theorem hentry : iprop((StableHlo.held (c : Thread nD τ) (Pipeline.ucRefs τ sig) (V1 m c) ∗ pend m c) ∗ Pipeline.ownSems0 osem c ∗ levAts L lv)
    ⊢ (|={Set.univ}=> iprop((dats m 0 c).arrays ((dats m 0 c).arrAt · 0) ∗ Pipeline.prefHeld pre0 c (fun _ => fullShare) (adm (F := F) c 0).1
      ∗ (dats m 0 c).owesAt () 0 ∗ enter m c ∗ emp) : sProp 𝕄) := by
  rw [pref_eq]
  unfold pend dealt ow enter primed
  unfold Dat.owesAt Pipeline.owesWithin
  rw [show (dats m 0 c).owed 0 = O₀ c from rfl, rcv₀_list]
  have hlist : (bigSep Finset.univ fun s : Dev nD => iprop(atPos ER (recvCell c s) 0 ∅ 0 ∗ reached ER (recvCell c s) 0))
      ⊢ (iprop((atPos ER (recvCell c (src c 0)) 0 ∅ 0 ∗ reached ER (recvCell c (src c 0)) 0) ∗ (atPos ER (recvCell c (far 1 c)) 0 ∅ 0 ∗ reached ER (recvCell c (far 1 c)) 0)
        ∗ (atPos ER (recvCell c (far 2 c)) 0 ∅ 0 ∗ reached ER (recvCell c (far 2 c)) 0) ∗ (atPos ER (recvCell c (far 3 c)) 0 ∅ 0 ∗ reached ER (recvCell c (far 3 c)) 0)) : sProp 𝕄) := by
    rw [ring_list c]
  iintro ⟨⟨HB, ⟨%κ, #HI⟩, ⟨Hbar, ⟨Hc1, Hc2, Hc3⟩, Hkeys, Htok⟩, %W, HO⟩, Hsem, #HL⟩
  ihave HB := (buffers m c) $$ HB
  icases HB with ⟨HA, Ht, Hx, Hraw⟩
  ihave Hsem := (own_split c) $$ Hsem
  icases Hsem with ⟨Hprot, Hloc⟩
  imod (open_up m c κ) $$ [Hkeys Hprot] with Hat
  · isplitr; · iexact HI
    isplitl [Hkeys]; · iexact Hkeys
    iexact Hprot
  ihave Hat := ((cells_apart c fun g => iprop(atPos ER g 0 ∅ 0 ∗ reached ER g 0)).1) $$ Hat
  icases Hat with ⟨⟨⟨Hs0, Hr0⟩, ⟨Hs1, Hr1⟩, Hs2, Hr2⟩, Hrecv⟩
  ihave Hrecv := hlist $$ Hrecv
  icases Hrecv with ⟨⟨Hp0, -⟩, ⟨Hp1, Hq1⟩, ⟨Hp2, Hq2⟩, Hp3, Hq3⟩
  imodintro
  isplitl [HA]; · iexact HA
  isplitl [Ht]; · iexact Ht
  isplitl [HO]
  · iexists W
    isplitr; · ipureintro; exact fun _ _ => Or.inl trivial
    iexact HO
  isplitl
  · iexists κ
    isplitr; · iexact HI
    isplitr; · iexact HL
    iframe
  iempintro

/-! ## Into the invariant and out of it -/

theorem hin : iprop(enter m c ∗ Pipeline.prefHeld pre0 c (fun _ => fullShare) (adm (F := F) c 0).1 ∗ Pipeline.scopedRest spec0 c) ⊢ (dats m 0 c).Φ 0 := by
  rw [pref_eq, show (dats m 0 c).Φ 0 = inv m c 0 from rfl, scopedRest0_eq]
  unfold enter primed inv hold
  rw [if_pos rfl]
  unfold start locals tokens
  rw [two]
  unfold free
  have hg : whole (F := F) c cc0_scratch1 ⊢ iprop((∃ f, xg c (src c 0).val f) ∗ (∃ f, xg c (far 1 c).val f) ∗ (∃ f, xg c (far 2 c).val f) ∗ (∃ f, xg c (far 3 c).val f)) := by
    have h := xg_cut (F := F) c
    rw [show (bigSep Finset.univ fun s : Fin 4 => (iprop(∃ f, xg (F := F) c s.val f) : sProp 𝕄)) = _ from ring_list c fun s : Dev nD => iprop(∃ f, xg (F := F) c s.val f)] at h
    exact h
  have ho := ob_cut (F := F) c
  have hx := xs_cut (F := F) c
  have hs := st_cut (F := F) c
  rw [two] at ho hs
  rw [three] at hx
  iintro ⟨⟨%κ, HI, HL, Hx, Hraw, ⟨⟨Hst0, Hst1⟩, Hou0, Hou1⟩, Hbar, Hrcv, Hm, Hsp, Hsr, Ht1, Ht2, Ht3⟩, Htbl, HB0, HB1, HB2, HB3, HB4⟩
  ihave HB0 := (acc_cut c) $$ HB0
  ihave HB1 := hg $$ HB1
  ihave HB2 := ho $$ HB2
  ihave HB3 := hx $$ HB3
  ihave HB4 := hs $$ HB4
  icases HB2 with ⟨HB2, HB2'⟩
  icases HB4 with ⟨HB4, HB4'⟩
  iexists κ
  isplitl [HI]; · iexact HI
  isplitl [HL]; · iexact HL
  isplitl [Htbl]; · iexact Htbl
  isplitl [Hx]; · iexact Hx
  isplitl [Hraw]; · iexact Hraw
  isplitl [HB2 HB2' Hou0 Hou1]
  · isplitl [HB2 Hou0]
    · isplitl [HB2]; · iexact HB2
      iexact Hou0
    isplitl [HB2']; · iexact HB2'
    iexact Hou1
  isplitl [HB4 HB4' Hst0 Hst1]
  · isplitl [HB4]; · iexact HB4
    isplitl [HB4']; · iexact HB4'
    isplitl [Hst0]; · iexact Hst0
    iexact Hst1
  isplitl [HB0]; · iexact HB0
  isplitl [HB3]; · iexact HB3
  isplitl [HB1]; · iexact HB1
  isplitl [Hbar]; · iexact Hbar
  isplitl [Hrcv]; · iexact Hrcv
  isplitl [Hm]; · iexact Hm
  isplitl [Hsp]; · iexact Hsp
  isplitl [Hsr]; · iexact Hsr
  isplitl [Ht1]; · iexact Ht1
  isplitl [Ht2]; · iexact Ht2
  iexact Ht3

theorem hout : (dats (F := F) m 0 c).Φ (Fin.last (cfgA (F := F) c).N) ⊢ iprop(leave m c ∗ Pipeline.ownSems0 osem c ∗ Pipeline.scopedRest spec0 c) := by
  rw [show (dats m 0 c).Φ (Fin.last (cfgA (F := F) c).N) = inv m c 16 from congrArg (inv m c) N_0, scopedRest0_eq]
  unfold inv hold leave
  rw [if_neg (by decide), if_pos rfl]
  unfold final
  rw [two, src_all c fun s => iprop(∃ f, xg c s.val f), src_all c fun s => semVal (recvCell c s) 0]
  unfold free
  have ho := ob_glue (F := F) m c
  have hx := xs_glue (F := F) m c
  have hs := st_glue (F := F) m c
  rw [two] at ho hs
  rw [three] at hx
  iintro ⟨%κ, -, -, -, Hx, Hdone, ⟨⟨Hb0, Hv0⟩, Hb1, Hv1⟩, ⟨Hs0, Hs1, Hw0, Hw1⟩, Hacc, Hxs, Hxg, Hbar, Hrecv, Hsend⟩
  isplitl [Hx Hdone Hbar]
  · isplitl [Hx]; · iexact Hx
    isplitl [Hdone]; · iexact Hdone
    iexact Hbar
  isplitl [Hsend Hrecv Hv0 Hv1 Hw0 Hw1]
  · iapply (own_join c)
    isplitl [Hsend]; · iexact Hsend
    isplitl [Hrecv]; · iexact Hrecv
    unfold locals
    isplitl [Hw0 Hw1]
    · isplitl [Hw0]; · iexact Hw0
      iexact Hw1
    isplitl [Hv0]; · iexact Hv0
    iexact Hv1
  isplitl [Hacc]; · iapply (acc_glue m c); iexact Hacc
  isplitl [Hxg]; · iapply (xg_glue m c); iexact Hxg
  isplitl [Hb0 Hb1]
  · iapply ho
    isplitl [Hb0]; · iexact Hb0
    iexact Hb1
  isplitl [Hxs]; · iapply hx; iexact Hxs
  iapply hs
  isplitl [Hs0]; · iexact Hs0
  iexact Hs1

/-! ## After the region -/

/-- The last thread state: the arguments as launched, the result, the barrier's counter at zero. -/
def last : sProp 𝕄 :=
  iprop(xAt m c fullShare ∗ (((c : Thread nD τ).loc main_arg1) ↦{fullShare} m ((c : Thread nD τ).loc main_arg1))
    ∗ (((c : Thread nD τ).loc main_arg2) ↦{fullShare} m ((c : Thread nD τ).loc main_arg2))
    ∗ (((c : Thread nD τ).loc main_arg3) ↦{fullShare} m ((c : Thread nD τ).loc main_arg3))
    ∗ (((c : Thread nD τ).loc main_v6) ↦{fullShare} result m c) ∗ semVal (barCell c) 0)

theorem hexit : iprop((dats m 0 c).arrays ((dats m 0 c).arrAt · (cfgA (F := F) c).N) ∗ (dats m 0 c).owesAt () (Fin.last (cfgA (F := F) c).N) ∗ leave m c ∗ emp)
    ⊢ (|={Set.univ}=> iprop(last m c ∗ ∃ W, owes (c : Thread nD τ) (0 : CellTallies nD τ sig Unit) W) : sProp 𝕄) := by
  unfold Dat.owesAt Pipeline.owesWithin leave last
  rw [show (dats m 0 c).owed (Fin.last (cfgA (F := F) c).N) = 0 from (congrArg (due c) N_0).trans (if_neg (by decide))]
  have harr : (dats m 0 c).arrays ((dats m 0 c).arrAt · (cfgA (F := F) c).N)
      ⊢ (iprop((((c : Thread nD τ).loc main_arg1) ↦{fullShare} m ((c : Thread nD τ).loc main_arg1))
    ∗ (((c : Thread nD τ).loc main_arg2) ↦{fullShare} m ((c : Thread nD τ).loc main_arg2))
    ∗ (((c : Thread nD τ).loc main_arg3) ↦{fullShare} m ((c : Thread nD τ).loc main_arg3))) : sProp 𝕄) := by
    rw [Pipeline.PerCore.arrays_eq (Pipeline.pinD (pcfgs (F := F)) adm) (dats m) (0 : Fin 1) c (launch0 (F := F)).arr_whole (fun w => (dats m 0 c).share_full (fun _ => rfl) w)]
    rw [bigSep_W0]
    rw [(dats m 0 c).arrAt_in (0 : Fin 3) rfl, (dats m 0 c).arrAt_in (1 : Fin 3) rfl, (dats m 0 c).arrAt_in (2 : Fin 3) rfl]
    exact BI.Entails.refl _
  iintro ⟨HA, ⟨%W, -, HO⟩, ⟨Hx, Hd, Hbar⟩, -⟩
  ihave HA := harr $$ HA
  icases HA with ⟨H1, H2, H3⟩
  ihave Hd := (out_glue m c) $$ Hd
  imodintro
  isplitr [HO]
  · isplitl [Hx]; · iexact Hx
    isplitl [H1]; · iexact H1
    isplitl [H2]; · iexact H2
    isplitl [H3]; · iexact H3
    isplitl [Hd]; · iexact Hd
    iexact Hbar
  iexists W
  iexact HO

/-! ## Waiting on the windows' cells -/

theorem window_level (w : Fin 3) (s : Fin (spec0 w).nbuf) : lv ((c : Thread nD τ), .dma ((spec0 w).sem s)) () = 0 := by
  show (if 7 ≤ ((spec0 w).sem s).val ∧ ((spec0 w).sem s).val < 11 then 2 else 0) = 0
  revert s; fin_cases w <;> decide

theorem hwaits : (levAts L lv : sProp 𝕄) ⊢ Pipeline.PerCore.cellsWaits (Pipeline.pinD (pcfgs (F := F)) adm) (dats m) () (0 : Fin 1) c :=
  Pipeline.PerCore.cellsWaits_intro _ (dats m) () (0 : Fin 1) c fun w s t => by
    rw [show (dats m 0 c).owed t = due c t.val from rfl]
    unfold due
    split
    · exact mayWait (window_level c w s) (above_O₀ Nat.one_pos c)
    · rw [MayWait_zero]
      show (_ : sProp 𝕄) ⊢ _
      iintro -
      iempintro

end Cert.AllToAll

end
-- ==== Proof.Deal.lean ====
/-
  What the launch deals out: the protocol's cells allocated once for every device, each device's duties and the credits
  its peers owe it.
-/
module

public import proofs.«01_k».proof.Proof.Entry

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (c : Dev nD)

/-! ## The kernel's own semaphores -/

/-! ## The credits -/

/-- What is owed to device `c`: its three landings and its three signals. -/
def claims : CellTallies nD τ sig Unit :=
  tallyAt (recvCell c (far 3 c)) () N + tallyAt (recvCell c (far 2 c)) () N + tallyAt (recvCell c (far 1 c)) () N
    + tallyAt (barCell c) () 1 + tallyAt (barCell c) () 1 + tallyAt (barCell c) () 1

theorem far_bij : ∀ h : Fin 4, Function.Bijective (far h.val) := by decide

theorem sum_far (h : Fin 4) (g : Dev nD → CellTallies nD τ sig Unit) : ∑ d, g (far h.val d) = ∑ d, g d :=
  (Equiv.ofBijective _ (far_bij h)).sum_comp g

theorem sum_owedR (h h' : Fin 4) (e : ∀ d, far h'.val (far h.val d) = d) : ∑ d, owedR h.val d = ∑ d, tallyAt (recvCell d (far h'.val d)) () N := by
  rw [← sum_far h fun d => tallyAt (recvCell d (far h'.val d)) () N]
  exact Finset.sum_congr rfl fun d _ => by rw [e]

theorem owed_claims : ∑ d, O₀ d = ∑ d, claims d := by
  unfold O₀ O₁ claims
  simp only [Finset.sum_add_distrib]
  rw [show ∑ d, owedR 1 d = ∑ d, tallyAt (recvCell d (far 3 d)) () N from sum_owedR 1 3 (by decide),
    show ∑ d, owedR 2 d = ∑ d, tallyAt (recvCell d (far 2 d)) () N from sum_owedR 2 2 (by decide),
    show ∑ d, owedR 3 d = ∑ d, tallyAt (recvCell d (far 1 d)) () N from sum_owedR 3 1 (by decide),
    show ∑ d, owedB 3 d = ∑ d, tallyAt (barCell d) () 1 from sum_far 3 fun d => tallyAt (barCell d) () 1,
    show ∑ d, owedB 2 d = ∑ d, tallyAt (barCell d) () 1 from sum_far 2 fun d => tallyAt (barCell d) () 1,
    show ∑ d, owedB 1 d = ∑ d, tallyAt (barCell d) () 1 from sum_far 1 fun d => tallyAt (barCell d) () 1]

/-- A tally that counts cells of device `c` only. -/
def On (X : CellTallies nD τ sig Unit) : Prop := ∀ g, X g ≠ 0 → g.1 = (c : Thread nD τ)
theorem on_tally (sm : SemLoc sig) (n : ℕ) : On c (tallyAt ((c : Thread nD τ), sm) () n) := fun g h => by
  by_contra hne
  exact h (tallyAt_ne_cell (fun e => hne (congrArg Prod.fst e)) () n)
theorem on_add {X Y : CellTallies nD τ sig Unit} (hX : On c X) (hY : On c Y) : On c (X + Y) := fun g h => by
  by_contra hne
  refine h ?_
  rw [Pi.add_apply, not_not.mp (fun h' => hne (hX g h')), not_not.mp (fun h' => hne (hY g h')), add_zero]
theorem on_claims : On c (claims c) :=
  on_add c (on_add c (on_add c (on_add c (on_add c (on_tally c _ _) (on_tally c _ _)) (on_tally c _ _)) (on_tally c _ _)) (on_tally c _ _)) (on_tally c _ _)

theorem credits : (Pipeline.launchCred O₀ c : sProp 𝕄)
    ⊢ iprop(cred (tallyAt (barCell c) () 3)
      ∗ (cred (tallyAt (recvCell c (far 1 c)) () N) ∗ cred (tallyAt (recvCell c (far 2 c)) () N) ∗ cred (tallyAt (recvCell c (far 3 c)) () N))) := by
  rw [Pipeline.launchCred_of_sum O₀ claims owed_claims (fun d => on_claims d) c]
  have e : claims c = tallyAt (recvCell c (far 3 c)) () N + tallyAt (recvCell c (far 2 c)) () N + tallyAt (recvCell c (far 1 c)) () N + tallyAt (barCell c) () 3 := by
    unfold claims
    rw [add_assoc, add_assoc, tallyAt_add, tallyAt_add]
  rw [e]
  iintro H
  ihave H := (cred_add _ _).1 $$ H
  icases H with ⟨H, Hb⟩
  ihave H := (cred_add _ _).1 $$ H
  icases H with ⟨H, H1⟩
  ihave H := (cred_add _ _).1 $$ H
  icases H with ⟨H3, H2⟩
  isplitl [Hb]; · iexact Hb
  isplitl [H1]; · iexact H1
  isplitl [H2]; · iexact H2
  iexact H3

/-! ## The cells, device by device -/

theorem bar_inj : Function.Injective barCell := fun _ _ h => congrArg (fun g : GSem nD τ sig => g.1.1) h
theorem ownS_inj : Function.Injective ownS := by decide

theorem own_inj : Function.Injective fun x : Dev nD × Fin 7 => (((x.1 : Thread nD τ), ownS x.2) : GSem nD τ sig) := fun x y h =>
  Prod.ext (congrArg (fun g : GSem nD τ sig => g.1.1) h) (ownS_inj (congrArg (fun g : GSem nD τ sig => g.2) h))

theorem over_bars (Φ : GSem nD τ sig → sProp 𝕄) : bigSep bars Φ = bigSep Finset.univ fun d => Φ (barCell d) := by
  exact (congrArg (bigSep · Φ) (Finset.map_eq_image ⟨barCell, bar_inj⟩ Finset.univ).symm).trans (bigSep_map _)
theorem over_dorm (Φ : GSem nD τ sig → sProp 𝕄) : bigSep dorm Φ = bigSep Finset.univ fun d : Dev nD => bigSep Finset.univ fun k : Fin 7 => Φ ((d : Thread nD τ), ownS k) := by
  exact (congrArg (bigSep · Φ) (Finset.map_eq_image ⟨_, own_inj⟩ Finset.univ).symm).trans ((bigSep_map _).trans (bigSep_univ_prod _))

theorem apart : Disjoint bars dorm := by
  rw [Finset.disjoint_left]
  intro g h1 h2
  obtain ⟨d, -, rfl⟩ := Finset.mem_image.mp h1
  obtain ⟨⟨d', k⟩, -, h⟩ := Finset.mem_image.mp h2
  have hk : ∀ k : Fin 7, ownS k ≠ .reg barS := by decide
  exact hk k (congrArg Prod.snd h)

/-- The cells device `c` pays into, in the order of `tokens`. -/
def paid : Fin 9 → GSem nD τ sig :=
  ![sendCell c 0, sendCell c 1, sendCell c 2, barCell (far 1 c), barCell (far 2 c), barCell (far 3 c), recvCell (far 1 c) c, recvCell (far 2 c) c, recvCell (far 3 c) c]
theorem paid_inj : Function.Injective (paid c) := by revert c; decide

def duty (x : Dev nD × Fin 9) : GSem nD τ sig × ℕ × Dev nD := (paid x.1 x.2, 0, x.1)
theorem duty_inj : Function.Injective duty := fun x y h => by
  have h1 : x.1 = y.1 := congrArg (fun t : GSem nD τ sig × ℕ × Dev nD => t.2.2) h
  have h2 : paid x.1 x.2 = paid y.1 y.2 := congrArg (fun t : GSem nD τ sig × ℕ × Dev nD => t.1) h
  rw [h1] at h2
  exact Prod.ext h1 (paid_inj _ h2)

def duties : Finset (GSem nD τ sig × ℕ × Dev nD) := Finset.univ.map ⟨duty, duty_inj⟩

theorem over_duties : (bigSep duties fun x => (dutyTok ER x.1 x.2.1 x.2.2 : sProp 𝕄)) = bigSep Finset.univ fun d : Dev nD => bigSep Finset.univ fun k : Fin 9 => dutyTok ER (paid d k) 0 d := by
  rw [duties, bigSep_map, bigSep_univ_prod]; rfl

theorem tokens_intro : (bigSep Finset.univ fun k : Fin 9 => dutyTok ER (paid c k) 0 c) ⊢ (tokens c : sProp 𝕄) := by
  rw [bigSep_univ_eq_bigSepL [0, 1, 2, 3, 4, 5, 6, 7, 8] (by decide) (by decide)]
  show iprop(dutyTok ER (sendCell c 0) 0 c ∗ dutyTok ER (sendCell c 1) 0 c ∗ dutyTok ER (sendCell c 2) 0 c
    ∗ dutyTok ER (barCell (far 1 c)) 0 c ∗ dutyTok ER (barCell (far 2 c)) 0 c ∗ dutyTok ER (barCell (far 3 c)) 0 c
    ∗ dutyTok ER (recvCell (far 1 c) c) 0 c ∗ dutyTok ER (recvCell (far 2 c) c) 0 c ∗ dutyTok ER (recvCell (far 3 c) c) 0 c) ⊢ _
  unfold tokens
  iintro ⟨H0, H1, H2, H3, H4, H5, H6, H7, H8⟩
  isplitl [H0 H1 H2]
  · isplitl [H0]; · iexact H0
    isplitl [H1]; · iexact H1
    iexact H2
  isplitl [H3 H4 H5]
  · isplitl [H3]; · iexact H3
    isplitl [H4]; · iexact H4
    iexact H5
  isplitl [H6]; · iexact H6
  isplitl [H7]; · iexact H7
  iexact H8

theorem unscoped_sems : (unscopedSems0 c : sProp 𝕄) = semVal (barCell c) 0 := by
  unfold unscopedSems0
  rw [bigSep_eq_bigSepL_of_eq [SemLoc.reg barS] (by decide) (by decide)]
  rfl

/-! ## The ghost state at launch -/

/-- The protocol's launch element: the barrier cells live, the kernel's own dormant, every duty's token. -/
def seed : UB := launchOf bars dorm duties

/-- It is dealt through device 0. -/
def ghost (d : Dev nD) : sProp 𝕄 := if d = (0 : Fin 4) then BI.own (ER seed) else iprop(emp)

theorem ghost_all : bigSep Finset.univ (ghost (F := F)) ⊣⊢ BI.own (ER seed) := by
  rw [show bigSep Finset.univ (ghost (F := F)) = iprop(ghost (0 : Fin 4) ∗ ghost (1 : Fin 4) ∗ ghost (2 : Fin 4) ∗ ghost (3 : Fin 4)) from four (fun s : Fin 4 => ghost s)]
  unfold ghost
  rw [if_pos rfl, if_neg (by decide), if_neg (by decide), if_neg (by decide)]
  constructor
  · iintro ⟨H, -⟩; iexact H
  · iintro H
    isplitl; · iexact H
    isplitr; · iempintro
    isplitr; · iempintro
    iempintro

/-- Every cell allocated, and each device its share. -/
theorem allocate : iprop((bigSep Finset.univ fun d : Dev nD => semVal (barCell d) 0) ∗ BI.own (ER seed))
    ⊢ (|={Set.univ}=> iprop(∃ κ, invs m κ ∗ (bigSep Finset.univ fun d : Dev nD => atPos ER (barCell d) 0 ∅ 0)
        ∗ (bigSep Finset.univ fun d : Dev nD => bigSep Finset.univ fun k : Fin 7 => openTok ER ((d : Thread nD τ), ownS k))
        ∗ bigSep Finset.univ fun d : Dev nD => (tokens d : sProp 𝕄)) : sProp 𝕄) := by
  have h := fund_launch ER (Rd (F := F) m) apart (fun _ _ h => h) duties (Es := Set.univ)
  rw [over_bars, over_bars, over_bars, over_dorm, over_duties] at h
  have deal : (bigSep Finset.univ fun d : Dev nD => bigSep Finset.univ fun k : Fin 9 => dutyTok ER (paid d k) 0 d)
      ⊢ (bigSep Finset.univ fun d : Dev nD => (tokens d : sProp 𝕄)) := bigSep_mono fun d _ => tokens_intro (F := F) d
  unfold seed
  iintro H
  imod h $$ H with ⟨%κ, -, HI, HR, HA, HT, HD⟩
  imodintro
  iexists κ
  unfold invs
  rw [over_bars]
  isplitl [HI HR]
  · isplitl [HI]; · iexact HI
    iexact HR
  isplitl [HA]; · iexact HA
  isplitl [HT]; · iexact HT
  iapply deal
  iexact HD

/-! ## The first thread state, of every device at once -/

variable (ρ : Dev nD → PrngReg)

/-- What a device holds before the host operations. -/
def first : sProp 𝕄 := iprop(StableHlo.held (c : Thread nD τ) (Pipeline.ucRefs τ sig) (V0 m c) ∗ pend m c)

/-- What the launch deals a device before the cells are allocated. -/
def share : sProp 𝕄 := iprop(StableHlo.held (c : Thread nD τ) (Pipeline.ucRefs τ sig) (V0 m c) ∗ owes (c : Thread nD τ) (O₀ c) ∅
  ∗ cred (tallyAt (barCell c) () 3)
  ∗ cred (tallyAt (recvCell c (far 1 c)) () N) ∗ cred (tallyAt (recvCell c (far 2 c)) () N) ∗ cred (tallyAt (recvCell c (far 3 c)) () N))

/-- What a device gets of the cells once they are allocated. -/
def places : sProp 𝕄 := iprop(atPos ER (barCell c) 0 ∅ 0
  ∗ (bigSep Finset.univ fun k : Fin 7 => openTok ER ((c : Thread nD τ), ownS k)) ∗ tokens c)

/-- What the launch gives a device. -/
def launched : sProp 𝕄 := iprop(unscopedBufs c (fun b => m ((c : Thread nD τ).loc b)) ∗ unscopedSems0 c
  ∗ owes (c : Thread nD τ) (O₀ c) ∅ ∗ Pipeline.launchCred O₀ c ∗ prngReg c (ρ c) ∗ ghost c)

theorem launched_split : launched m c ρ ⊢ (iprop(semVal (barCell c) 0 ∗ ghost c ∗ share m c) : sProp 𝕄) := by
  unfold launched share
  rw [unscoped_sems, show unscopedBufs c (fun b => m ((c : Thread nD τ).loc b)) = StableHlo.held (c : Thread nD τ) (Pipeline.ucRefs τ sig) (V0 m c) from
    Pipeline.unscopedBufs_held (Ix := Unit) (Name := ℕ) (U := UU) (Lvl := ℕ) c (V0 m c)]
  iintro ⟨Hh, Hb, HO, Hc, -, HG⟩
  ihave Hc := (credits c) $$ Hc
  isplitl [Hb]; · iexact Hb
  isplitl [HG]; · iexact HG
  isplitl [Hh]; · iexact Hh
  isplitl [HO]; · iexact HO
  iexact Hc

theorem first_intro (κ : GSem nD τ sig → ℕ) : iprop(invs m κ ∗ (share m c ∗ places c)) ⊢ (first m c : sProp 𝕄) := by
  unfold first pend dealt ow share places
  iintro ⟨HI, ⟨Hh, HO, Hb, Hc⟩, Ha, Hk, Ht⟩
  isplitl [Hh]; · iexact Hh
  isplitl [HI]; · iexists κ; iexact HI
  isplitr [HO]
  · isplitl [Ha Hb]
    · isplitl [Ha]; · iexact Ha
      iexact Hb
    isplitl [Hc]; · iexact Hc
    isplitl [Hk]; · iexact Hk
    iexact Ht
  iexists ∅
  iexact HO

/-- The launch's resources make every device's first thread state. -/
theorem hinit : iprop((bigSep Finset.univ fun c : Dev nD => launched m c ρ) ∗ levAts L lv)
    ⊢ (|={Set.univ}=> bigSep Finset.univ (first m) : sProp 𝕄) := by
  have sorted : (bigSep Finset.univ fun d : Dev nD => launched m d ρ)
      ⊢ (iprop((bigSep Finset.univ fun d : Dev nD => semVal (barCell d) 0) ∗ bigSep Finset.univ ghost ∗ bigSep Finset.univ (share m)) : sProp 𝕄) := by
    refine BI.Entails.trans (bigSep_mono fun d _ => launched_split m d ρ) ?_
    rw [bigSep_sep', bigSep_sep']
    exact BI.Entails.refl _
  have spread (κ : GSem nD τ sig → ℕ) : iprop(invs m κ ∗ (bigSep Finset.univ (share m) ∗ (bigSep Finset.univ fun d : Dev nD => atPos ER (barCell d) 0 ∅ 0)
      ∗ (bigSep Finset.univ fun d : Dev nD => bigSep Finset.univ fun k : Fin 7 => openTok ER ((d : Thread nD τ), ownS k))
      ∗ bigSep Finset.univ fun d : Dev nD => (tokens d : sProp 𝕄))) ⊢ (bigSep Finset.univ (first m) : sProp 𝕄) := by
    rw [← bigSep_sep', ← bigSep_sep', ← bigSep_sep']
    exact bigSep_with_persistent fun d _ => first_intro m d κ
  have gather : (bigSep Finset.univ fun d : Dev nD => ghost d) ⊢ (BI.own (ER seed) : sProp 𝕄) := (ghost_all (F := F)).1
  iintro ⟨H, -⟩
  ihave H := sorted $$ H
  icases H with ⟨Hb, HG, Hrest⟩
  ihave HG := gather $$ HG
  imod (allocate m) $$ [Hb HG] with ⟨%κ, #HI, Ha, Hk, Ht⟩
  · isplitl [Hb]; · iexact Hb
    iexact HG
  imodintro
  iapply (spread κ)
  isplitr; · iexact HI
  isplitl [Hrest]; · iexact Hrest
  isplitl [Ha]; · iexact Ha
  isplitl [Hk]; · iexact Hk
  iexact Ht

end Cert.AllToAll

end
-- ==== Proof.Run.lean ====
/-
  The run of the whole program on the four devices: the host operations, then the region.
-/
module

public import proofs.«01_k».proof.Proof.Deal
public import proofs.«01_k».proof.Proof.Gen.KernelIdeal.Regions

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The two segments -/

/-- The kernel's region, from the thread state after the host operations to the last one. -/
def region : Pipeline.PerCore.RegionSeg (pcfgs (F := F)) adm (dats m) () defs₀ 𝒱₀ L lv (0 : Fin 1) where
  win := launch0.win.to₀
  block_pos := launch0.block_pos
  stage_whole := launch0.stage_whole
  K := Fin 11
  osem := osem
  ho := osem_facts
  hbody c := (body_obligation m c).loose
  hwaits := hwaits m
  pre c := iprop(StableHlo.held (c : Thread nD τ) (Pipeline.ucRefs τ sig) (V1 m c) ∗ pend m c)
  post c := iprop(last m c ∗ ∃ W, owes (c : Thread nD τ) (0 : CellTallies nD τ sig Unit) W)
  X := enter m
  Y := leave m
  Z _ := iprop(emp)
  hentry := hentry m
  hin := hin m
  hout := hout m
  hexit := hexit m

def segs : List (Pipeline.PerCore.Seg (pcfgs (F := F)) adm (dats m) () defs₀ 𝒱₀ L lv) :=
  [.host (seg0 m 𝒱₀ L lv (fun _ => pend m) c), .region (region m)]

theorem segs_run : Pipeline.PerCore.Seg.run (segs m c) = main (F := F) c :=
  (Pipeline.PerCore.Seg.run_eq_chain (segs m c)).trans (main_chain c).symm

/-! ## The launch -/

theorem phinj : Function.Injective (Pipeline.PerCore.cellOf (τ := τ) (Pipeline.pinD (pcfgs (F := F)) adm)) :=
  Pipeline.PerCore.cellOf_injective (Pipeline.pinD (pcfgs (F := F)) adm) (fun _ p => by
    obtain rfl := Subsingleton.elim p 0
    exact Pipeline.specSemsDistinct_of_nodup spec0 (by decide)) fun _ p p' h => absurd (Subsingleton.elim p p') h

/-- The ghost state the launch begins with: the pipeline's rounds, the protocol's. -/
def u₀ : UU :=
  (initOf (Pipeline.PerCore.cells (Pipeline.pinD (pcfgs (F := F)) adm) phinj)
    (Pipeline.PerCore.launchToks (Pipeline.pinD (pcfgs (F := F)) adm) phinj), (seed, 1))

theorem fund : (ownU (u₀ (F := F)) : sProp 𝕄)
    ⊢ |={Set.univ}=> iprop(BI.own (EP (initOf (Pipeline.PerCore.cells (Pipeline.pinD (pcfgs (F := F)) adm) phinj)
      (Pipeline.PerCore.launchToks (Pipeline.pinD (pcfgs (F := F)) adm) phinj))) ∗ bigSep Finset.univ ghost) := by
  have deal : (BI.own (ER seed) : sProp 𝕄) ⊢ bigSep Finset.univ ghost := (ghost_all (F := F)).2
  have part : (BI.own (embR ((seed, 1) : UB × Counters)) : sProp 𝕄) ⊢ iprop(BI.own (ER seed)
      ∗ BI.own (((Emb.inr : Emb Counters (UB × Counters)).trans embR) 1)) := own_pair_emb (embR : Emb (UB × Counters) 𝕄) seed 1
  unfold u₀
  iintro Hu
  ihave H := (ownU_pair _ _) $$ Hu
  icases H with ⟨HP, HX⟩
  ihave HX := part $$ HX
  icases HX with ⟨HX, -⟩
  ihave HX := deal $$ HX
  imodintro
  isplitl [HP]; · iexact HP
  iexact HX

theorem unscoped_eq : ∀ sm : SemLoc sig, sm.isScoped .tc = false → sm = .reg barS := by decide

/-- What a device's memory and barrier counter read at the end. -/
def ends (s : MemSt nD τ sig (Elt F)) : Prop :=
  ((s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3))
    ∧ s.mem ((c : Thread nD τ).loc main_v6) = result m c) ∧ s.sem (barCell c) = 0

theorem last_ends (s : Phys nD τ sig (Elt F)) : iprop(last m c ∗ SI s) ⊢ (|={Set.univ}=> iprop(⌜ends m c s.mem⌝ ∗ SI s) : sProp 𝕄) := by
  unfold last xAt
  iintro ⟨⟨H0, H1, H2, H3, H6, Hb⟩, HSI⟩
  icombine HSI H0 gives %h0
  icombine HSI H1 gives %h1
  icombine HSI H2 gives %h2
  icombine HSI H3 gives %h3
  icombine HSI H6 gives %h6
  icombine HSI Hb gives %hb
  imodintro
  isplitr
  · ipureintro
    exact ⟨⟨⟨Buf.eq_of_forall_mem_univ h0, Buf.eq_of_forall_mem_univ h1, Buf.eq_of_forall_mem_univ h2, Buf.eq_of_forall_mem_univ h3⟩,
      Buf.eq_of_forall_mem_univ h6⟩, by simpa using hb⟩
  iexact HSI

set_option backward.isDefEq.respectTransparency.types false in
/-- The run: from any memory with zero counters every weakly fair execution on the four devices terminates; at the end each
    device's arguments are as launched, its result is `result m c`, and every semaphore counter reads zero. -/
theorem run_main : θ_run (defs (F := F)) (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
      ∧ r.2.mem ((c : Thread nD τ).loc main_v6) = result m c) ∧ r.2.sem = fun _ => 0) :=
  Pipeline.PerCore.θ_run_regions_kit_sems (pcfgs (F := F)) adm (dats m) () phinj EP defs₀ 𝒱₀ L lv m ρ main (segs m)
    (fun c Q => by rw [segs_run m c])
    (fun c => by simp only [segs, Pipeline.PerCore.Seg.pipes_host, Pipeline.PerCore.Seg.pipes_region, Pipeline.PerCore.Seg.pipes_nil]; decide)
    (O₀ := O₀) (hL := L_of_ne) (G := ghost) (u₀ := u₀ (F := F)) (hu₀ := fund)
    (T₀ := first m) (Tₙ := last m)
    (hch := fun c => ⟨.rfl, .rfl, .rfl⟩)
    (hinit := hinit m ρ)
    (QY := ends m)
    (hfin := last_ends m)
    (hQ := fun s h hs => ⟨fun c => (h c).1, sem_eq_zero hs fun c sm hsm => by
      obtain rfl := unscoped_eq sm hsm
      exact (h c).2⟩)

end Cert.AllToAll

end
-- ==== Proof.Frames.lean ====
/-
  The frames of the two programs of the kernel. They have one text: the kernel as printed, at the bit-exact floats, is the
  program of `Proof/Run.lean` at those floats.
-/
module

public import proofs.«01_k».proof.Defs
public import proofs.«01_k».proof.Proof.Run
public import proofs.«01_k».proof.Proof.Gen.Kernel

@[expose] public section

set_option maxHeartbeats 2000000
set_option synthInstance.maxHeartbeats 2000000
-- the two programs' shapes and signatures agree once unfolded, also where they stand as implicit arguments
set_option backward.isDefEq.respectTransparency false

noncomputable section

namespace Cert.AllToAll

open Idealize.ShloMosaic Idealize.SL.Sem

theorem same_bodies : @Cert.Kernel.defs₀ Bits _ _ = @Cert.KernelIdeal.defs₀ Bits _ _ := by
  unfold Cert.Kernel.defs₀ Cert.KernelIdeal.defs₀
  refine congrArg Defs.onTc ?_
  funext l
  match l with
  | ⟨0, _⟩ => funext a; rfl

theorem same_defs : @Cert.Kernel.defs Bits _ _ = @Cert.KernelIdeal.defs Bits _ _ :=
  congrArg (Pipeline.defs (Cert.Kernel.pcfgs (F := Bits))) same_bodies

/-- A run of one program is a run of the other. -/
theorem same_run (m : (ℓ : Loc Cert.Kernel.nD Cert.Kernel.τ Cert.Kernel.sig) → Buf (Elt Bits) ℓ) (ρ : Dev Cert.Kernel.nD → PrngReg)
    (P : PUnit × MemSt Cert.Kernel.nD Cert.Kernel.τ Cert.Kernel.sig (Elt Bits) → Prop)
    (h : θ_run (Cert.KernelIdeal.defs (F := Bits)) (onTc (τ := Cert.KernelIdeal.τ) (Cert.KernelIdeal.main (F := Bits))) ⟨m, fun _ => 0, ρ⟩ P) :
    θ_run (Cert.Kernel.defs (F := Bits)) (onTc (τ := Cert.Kernel.τ) (Cert.Kernel.main (F := Bits))) ⟨m, fun _ => 0, ρ⟩ P :=
  Eq.mpr (congrArg (fun D => θ_run D (onTc (τ := Cert.Kernel.τ) (Cert.Kernel.main (F := Bits))) ⟨m, fun _ => 0, ρ⟩ P) same_defs) h

theorem frame_ideal : Cert.quiescent_KernelIdeal := fun m ρ _ =>
  (θ_run Cert.KernelIdeal.defs _ _).mono (fun _ h => ⟨fun c => (h.1 c).1, h.2⟩) (run_main (F := Ideal) m ρ)

theorem frame_kernel : Cert.quiescent_Kernel := fun m ρ _ =>
  same_run m ρ _ ((θ_run Cert.KernelIdeal.defs _ _).mono (fun _ h => ⟨fun c => (h.1 c).1, h.2⟩) (run_main (F := Bits) m ρ))

end Cert.AllToAll

end
-- ==== Proof.Sums.lean ====
/-
  The kernel's payloads over the extended reals, each read at one element, and the sum over the four K-blocks
  put back together. Rounding is the identity here, so a block sent is a block of `x`, a product is a sum over
  1024 positions, and the accumulator is the plain sum of the products so far.
-/
module

public import proofs.«01_k».proof.Proof.Gen.KernelIdeal.Skeleton
public import Idealize.ShloMosaic.Lib.Pipeline.ValueKit

@[expose] public section

set_option maxRecDepth 16384

noncomputable section

namespace Cert.Sums

open Cert.KernelIdeal Cert.KernelIdeal.Gen
open Idealize.ShloMosaic

/-- A block sent and multiplied by a block of the weights. -/
theorem product_at (x : FVec Ideal S1x1024x1024 .f32) (w : FVec Ideal S1024x2048 .fp8e4m3) (r : Fin 1024) (l : Fin 2048) :
    k0_pay8 (F := Ideal) (k0_pay3 (F := Ideal) x) w (ix2 r l) = ∑ k : Fin 1024, x (ix3 0 r k) * w (ix2 k l) := by
  pointwise [k0_pay8, k0_pay3]

/-- The first pass stores its product. -/
theorem first_at (x : FVec Ideal S1x1024x1024 .fp8e4m3) (w : FVec Ideal S1024x2048 .fp8e4m3) (r : Fin 1024) (l : Fin 2048) :
    k0_pay9 (F := Ideal) x w (ix2 r l) = k0_pay8 (F := Ideal) x w (ix2 r l) := by
  pointwise [k0_pay9]

/-- A middle pass adds its product. -/
theorem next_at (p : FVec Ideal S1024x2048 .f32) (a : FVec Ideal S1024x2048 .bf16) (r : Fin 1024) (l : Fin 2048) :
    k0_pay1 (F := Ideal) p a (ix2 r l) = (a (ix2 r l) + p (ix2 r l) : EReal) := by
  pointwise [k0_pay1]

/-- The last pass adds its product, scales and cuts off below zero. -/
theorem last_at (s : Ideal .f32) (p : FVec Ideal S1024x2048 .f32) (a : FVec Ideal S1024x2048 .bf16) (r : Fin 1024) (l : Fin 2048) :
    k0_pay2 (F := Ideal) s p a (ix3 0 r l) = max ((a (ix2 r l) + p (ix2 r l) : EReal) * s) 0 := by
  pointwise [k0_pay2]

/-- The four K-blocks' sums, taken in any order of the blocks, are the sum over all 4096 positions. -/
theorem blocks_sum (e : Fin 4 → Fin 4) (he : Function.Bijective e) (f : Fin 4096 → EReal) :
    ((∑ k : Fin 1024, f ⟨(e 0).val * 1024 + k.val, by omega⟩ + ∑ k : Fin 1024, f ⟨(e 1).val * 1024 + k.val, by omega⟩)
        + ∑ k : Fin 1024, f ⟨(e 2).val * 1024 + k.val, by omega⟩) + ∑ k : Fin 1024, f ⟨(e 3).val * 1024 + k.val, by omega⟩
      = ∑ k : Fin 4096, f k := by
  rw [Fin.sum_univ_tiles 4 1024 rfl f, ← he.sum_comp (fun d : Fin 4 => ∑ k : Fin 1024, f ⟨d.val * 1024 + k.val, by omega⟩), Fin.sum_univ_four]

end Cert.Sums

end
-- ==== Proof.RefValue.lean ====
/-
  The reference's run, its result as one function of its arguments.
-/
module

public import proofs.«01_k».proof.Proof.Gen.ReferenceIdeal.Value
public import Idealize.ShloMosaic.Lib.Pipeline.ValueKit

@[expose] public section

set_option maxRecDepth 16384

noncomputable section

namespace Cert.AllToAll.Ref

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ)

/-- Every window's block index is zero: the one block is the whole array. -/
theorem idx : ∀ t : Fin cfg0.N, win0_0.index t = ![0, 0] ∧ win0_1.index t = ![0, 0] ∧ win0_2.index t = ![0] ∧ win0_3.index t = ![0] ∧ win0_4.index t = ![0, 0] :=
  (by decide +kernel : ∀ t : Fin grid0.N, _)

/-- The one index of a scalar's array. -/
abbrev one : S1.Idx := fun a => ⟨0, by revert a; decide⟩

theorem first_one (h : 0 < S1.numel) : Shape.Idx.first h = one := by
  funext a
  have : ∀ a : Fin 1, ∀ x y : Fin (S1.size a), x = y := by decide
  exact this a _ _

theorem final (c : Dev nD) : (dats m 0 c).arrAt 4 cfg0.N
    = k0_pay1 (F := Ideal) (m ((c : Thread nD τ).loc main_arg0)) (m ((c : Thread nD τ).loc main_arg1))
      (m ((c : Thread nD τ).loc main_arg2) one) (m ((c : Thread nD τ).loc main_arg3) one) := by
  have b0 : ((cfg0.win 0).blk t0_0).view.read (Elt Ideal) (V m c (Pipeline.arrRef spec0 0)) = m ((c : Thread nD τ).loc main_arg0) := by blk_ext! [iblk, V, idx t0_0]
  have b1 : ((cfg0.win 1).blk t0_0).view.read (Elt Ideal) (V m c (Pipeline.arrRef spec0 1)) = m ((c : Thread nD τ).loc main_arg1) := by blk_ext! [iblk, V, idx t0_0]
  have b2 : ((cfg0.win 2).blk t0_0).view.read (Elt Ideal) (V m c (Pipeline.arrRef spec0 2)) = m ((c : Thread nD τ).loc main_arg2) := by blk_ext! [iblk, V, idx t0_0]
  have b3 : ((cfg0.win 3).blk t0_0).view.read (Elt Ideal) (V m c (Pipeline.arrRef spec0 3)) = m ((c : Thread nD τ).loc main_arg3) := by blk_ext! [iblk, V, idx t0_0]
  refine (dats m 0 c).arrAt_eq_of_after_last 4 t0_0 (by decide +kernel) _ fun j => ?_
  blk_simp
  rw [after0_4]
  unfold outsAt0
  frame_out
  blk_point [iblk, V, idx t0_0]
  · exact ((Memref.isWhole_whole cc0_stg0_0).read_unread _).trans b0
  · exact ((Memref.isWhole_whole cc0_stg1_0).read_unread _).trans b1
  · exact (congrFun ((Memref.isWhole_whole cc0_stg2_0).read_unread _) _).trans ((congrFun b2 _).trans (congrArg _ (first_one _)))
  · exact (congrFun ((Memref.isWhole_whole cc0_stg3_0).read_unread _) _).trans ((congrFun b3 _).trans (congrArg _ (first_one _)))

end Cert.AllToAll.Ref

end
-- ==== Proof.Value.lean ====
/-
  The value. Device `c`'s result at an element is the whole product's element there, scaled and cut off: its four
  passes run over the four K-blocks of the contraction, one block from each device, and the sum of sums is the
  sum. The reference computes the same element from whole arrays, so device `c` holds block `c` of it.
-/
module

public import proofs.«01_k».proof.Proof.Pieces
public import proofs.«01_k».proof.Proof.Sums
public import proofs.«01_k».proof.Proof.RefValue

@[expose] public section

set_option maxRecDepth 16384

noncomputable section

namespace Cert.Value

open Idealize.ShloMosaic Idealize.ShloMosaic.TcCoe
open Cert.KernelIdeal Cert.KernelIdeal.Gen Cert.Sums

/-! ## The kernel's side -/

theorem src_bij : ∀ c : Dev nD, Function.Bijective (AllToAll.src c) := by
  have h : ∀ c : Dev nD, Function.Injective (AllToAll.src c) := by decide
  exact fun c => Finite.injective_iff_bijective.mp (h c)

variable (m : (ℓ : Loc nD τ sig) → Buf (Elt Ideal) ℓ) (c : Dev nD) (X : FVec Ideal ⟨2, ![4096, 4096]⟩ .f32)

/-- The whole contraction at row `r` of device `c`'s block and column `l`: the term of position `k`. -/
def term (r : Fin 1024) (l : Fin 8192) (k : Fin 4096) : EReal :=
  X (ix2 ⟨1024 * c.val + r.val, by have : c.val < 4 := c.isLt; omega⟩ k)
    * (show FVec Ideal S4096x8192 .fp8e4m3 from m ((c : Thread nD τ).loc main_arg1)) (ix2 k l)

/-- An element of the block device `s` holds for device `c`. -/
theorem rows_at (s : Dev nD) (hX : m ((s : Thread nD τ).loc main_arg0) = Layout.block ⟨2, ![4096, 1024]⟩ ⟨2, ![4096, 4096]⟩ 1 4 s X) (r k : Fin 1024) :
    AllToAll.rows (m ((s : Thread nD τ).loc main_arg0)) c (ix3 0 r k)
      = X (ix2 ⟨1024 * c.val + r.val, by have : c.val < 4 := c.isLt; omega⟩ ⟨s.val * 1024 + k.val, by have : s.val < 4 := s.isLt; omega⟩) := by
  rw [hX]
  refine congrArg X (funext fun a => ?_)
  fin_cases a <;> rfl

/-- An element of the block of the weights pass `q` takes. -/
theorem wblk_at (q j : Fin 4) (k : Fin 1024) (l : Fin 2048) :
    AllToAll.wblk m c q j (ix2 k l)
      = m ((c : Thread nD τ).loc main_arg1) (ix2 ⟨(AllToAll.src c q).val * 1024 + k.val, by have : (AllToAll.src c q).val < 4 := (AllToAll.src c q).isLt; omega⟩
          ⟨2048 * j.val + l.val, by omega⟩) := by
  refine congrArg (m ((c : Thread nD τ).loc main_arg1)) (funext fun a => ?_)
  fin_cases a
  · exact Fin.ext (congrArg (· + k.val) (Nat.mul_comm 1024 _))
  · rfl

variable (hX : ∀ s : Dev nD, m ((s : Thread nD τ).loc main_arg0) = Layout.block ⟨2, ![4096, 1024]⟩ ⟨2, ![4096, 4096]⟩ 1 4 s X)
include hX

/-- Pass `q`'s product is the contraction over its K-block. -/
theorem prod_at (q j : Fin 4) (r : Fin 1024) (l : Fin 2048) :
    AllToAll.prod m c q j (ix2 r l)
      = ∑ k : Fin 1024, term m c X r ⟨2048 * j.val + l.val, by omega⟩
          ⟨(AllToAll.src c q).val * 1024 + k.val, by have : (AllToAll.src c q).val < 4 := (AllToAll.src c q).isLt; omega⟩ := by
  refine (product_at _ _ r l).trans (Finset.sum_congr rfl fun k _ => ?_)
  exact Ideal.mul_congr (rows_at m c X (AllToAll.src c q) (hX _) r k) (wblk_at m c q j k l)

/-- The accumulator after the third pass is the sum of the first three products. -/
theorem acc_at (j : Fin 4) (r : Fin 1024) (l : Fin 2048) :
    AllToAll.accVal m c j 2 (ix2 r l)
      = ((AllToAll.prod m c 0 j (ix2 r l) + AllToAll.prod m c 1 j (ix2 r l) : EReal) + AllToAll.prod m c 2 j (ix2 r l)) := by
  refine (next_at _ _ r l).trans (Ideal.add_congr ?_ rfl)
  refine (next_at _ _ r l).trans (Ideal.add_congr ?_ rfl)
  exact first_at _ _ r l

/-- A column block of device `c`'s result. -/
theorem block_at (j : Fin 4) (r : Fin 1024) (l : Fin 2048) :
    AllToAll.outBlk m c j (ix3 0 r l)
      = max ((∑ k : Fin 4096, term m c X r ⟨2048 * j.val + l.val, by omega⟩ k) * AllToAll.scale m c) 0 := by
  refine (last_at _ _ _ r l).trans (congrArg (fun e : EReal => max (e * AllToAll.scale m c) 0) ?_)
  refine Eq.trans ?_ (blocks_sum (AllToAll.src c) (src_bij c) (term m c X r ⟨2048 * j.val + l.val, by omega⟩))
  refine Ideal.add_congr ((acc_at m c X hX j r l).trans ?_) (prod_at m c X hX 3 j r l)
  exact Ideal.add_congr (Ideal.add_congr (prod_at m c X hX 0 j r l) (prod_at m c X hX 1 j r l)) (prod_at m c X hX 2 j r l)

/-- Device `c`'s result at an element. -/
theorem result_at (r : Fin 1024) (l : Fin 8192) :
    AllToAll.result m c (ix2 r l) = max ((∑ k : Fin 4096, term m c X r l k) * AllToAll.scale m c) 0 := by
  have e : (⟨2048 * (l.val / 2048) + l.val % 2048, by omega⟩ : Fin 8192) = l := Fin.ext (Nat.div_add_mod _ _)
  have h := block_at m c X hX ⟨l.val / 2048, by omega⟩ r ⟨l.val % 2048, Nat.mod_lt _ (by decide)⟩
  simp only [e] at h
  refine Eq.trans ?_ h
  refine congrArg (AllToAll.outBlk m c _) (funext fun a => ?_)
  fin_cases a <;> rfl

end Cert.Value

end
-- ==== Proof.Agree.lean ====
/-
  The two programs compared. The reference computes each element from whole arrays; device `c`'s result is block
  `c` of its result.
-/
module

public import proofs.«01_k».proof.Proof.Value

@[expose] public section

set_option maxRecDepth 16384

noncomputable section

namespace Cert.Value

open Idealize.ShloMosaic Idealize.ShloMosaic.TcCoe

/-- The reference's result at an element. -/
theorem reference_at (X : FVec Ideal ReferenceIdeal.S4096x4096 .f32) (W : FVec Ideal ReferenceIdeal.S4096x8192 .fp8e4m3) (a b : Ideal .f32) (r : Fin 4096) (l : Fin 8192) :
    ReferenceIdeal.Gen.k0_pay1 (F := Ideal) X W a b (ix2 r l) = max ((∑ k : Fin 4096, (X (ix2 r k) * W (ix2 k l) : EReal)) * (a * b)) 0 := by
  pointwise [ReferenceIdeal.Gen.k0_pay1]

open Cert.KernelIdeal

/-- Device `c`'s result is block `c` of the reference's. -/
theorem result_block (m : (ℓ : Loc nD τ sig) → Buf (Elt Ideal) ℓ) (c : Dev nD) (X : FVec Ideal ⟨2, ![4096, 4096]⟩ .f32)
    (hX : ∀ s : Dev nD, m ((s : Thread nD τ).loc main_arg0) = Layout.block ⟨2, ![4096, 1024]⟩ ⟨2, ![4096, 4096]⟩ 1 4 s X) :
    AllToAll.result m c = Layout.block ⟨2, ![1024, 8192]⟩ ⟨2, ![4096, 8192]⟩ 0 4 c
      (ReferenceIdeal.Gen.k0_pay1 (F := Ideal) X (m ((c : Thread nD τ).loc main_arg1))
        (m ((c : Thread nD τ).loc main_arg2) AllToAll.Ref.one) (m ((c : Thread nD τ).loc main_arg3) AllToAll.Ref.one)) := by
  funext i
  obtain ⟨r, l, rfl⟩ : ∃ (r : Fin 1024) (l : Fin 8192), i = ix2 r l := ⟨i 0, i 1, eq_ix2 i⟩
  refine (result_at m c X hX r l).trans ?_
  refine Eq.trans ?_ ((reference_at X (m ((c : Thread nD τ).loc main_arg1)) (m ((c : Thread nD τ).loc main_arg2) AllToAll.Ref.one) (m ((c : Thread nD τ).loc main_arg3) AllToAll.Ref.one)
    ⟨1024 * c.val + r.val, by have : c.val < 4 := c.isLt; omega⟩ l).symm.trans ?_)
  · have e : AllToAll.i0 = AllToAll.Ref.one := funext fun a => by fin_cases a; rfl
    refine congrArg (fun s : EReal => max ((∑ k : Fin 4096, term m c X r l k) * s) 0) ?_
    unfold AllToAll.scale Gen.k0_pay7
    rw [e]
    rfl
  · refine congrArg _ (funext fun a => ?_)
    fin_cases a
    · exact Fin.ext (congrArg (· + r.val) (Nat.mul_comm 1024 _))
    · rfl

end Cert.Value

end
-- ==== Proof.lean ====
/-
  The claims about the four-device all-to-all and product, put together: the frames of the two programs of the kernel
  and of the reference, and the value. The kernel's run is `Proof/Run.lean`, the comparison `Proof/Agree.lean`.
-/
module

public import proofs.«01_k».proof.Defs
public import proofs.«01_k».proof.Proof.Frames
public import proofs.«01_k».proof.Proof.Agree
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value

@[expose] public section

set_option maxRecDepth 16384

noncomputable section

namespace Cert.Proof

open Idealize.ShloMosaic Idealize.ShloMosaic.TcCoe Idealize.SL.Sem

/-- Over the extended reals, device `c`'s result is block `c` of the reference's. -/
theorem algebraic : Cert.algebraic_KernelIdeal_ReferenceIdeal := fun m g m' g' _ hm => by
  refine ⟨Cert.ReferenceIdeal.Gen.k0_pay1 (F := Ideal) (m' (((0 : Dev Cert.ReferenceIdeal.nD) : Thread Cert.ReferenceIdeal.nD Cert.ReferenceIdeal.τ).loc Cert.ReferenceIdeal.main_arg0))
      (m' (((0 : Dev Cert.ReferenceIdeal.nD) : Thread Cert.ReferenceIdeal.nD Cert.ReferenceIdeal.τ).loc Cert.ReferenceIdeal.main_arg1))
      (m' (((0 : Dev Cert.ReferenceIdeal.nD) : Thread Cert.ReferenceIdeal.nD Cert.ReferenceIdeal.τ).loc Cert.ReferenceIdeal.main_arg2) Cert.AllToAll.Ref.one)
      (m' (((0 : Dev Cert.ReferenceIdeal.nD) : Thread Cert.ReferenceIdeal.nD Cert.ReferenceIdeal.τ).loc Cert.ReferenceIdeal.main_arg3) Cert.AllToAll.Ref.one), ?_, ?_⟩
  · refine (θ_run Cert.KernelIdeal.defs _ _).mono (fun r h c => ⟨((h.1 c).2).trans ?_, (h.1 c).1⟩) (Cert.AllToAll.run_main (F := Ideal) m g)
    refine (Cert.Value.result_block m c _ fun s => (hm s).1).trans ?_
    rw [(hm c).2.1, (hm c).2.2.1, (hm c).2.2.2]
  · exact (θ_run Cert.ReferenceIdeal.defs _ _).mono (fun r h => ⟨((h 0).1).trans (Cert.AllToAll.Ref.final m' 0), (h 0).2⟩)
      (Cert.ReferenceIdeal.Value.run_blocks m' g')

theorem claim : Cert.Claim := ⟨Cert.Kernel.Gen.facts, Cert.KernelIdeal.Gen.facts, Cert.ReferenceIdeal.Gen.facts,
  Cert.AllToAll.frame_kernel, Cert.AllToAll.frame_ideal, fun m ρ _ => Cert.ReferenceIdeal.Gen.frame (F := Ideal) m ρ, trivial, algebraic⟩

end Cert.Proof

end
